-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S640x3x10240 : Shape := ⟨3, ![640, 3, 10240]⟩
abbrev S1 : Shape := ⟨1, ![1]⟩
abbrev S1x640x3 : Shape := ⟨3, ![1, 640, 3]⟩
abbrev S10240 : Shape := ⟨1, ![10240]⟩
abbrev S3x640x10240 : Shape := ⟨3, ![3, 640, 10240]⟩
abbrev S3x1x640 : Shape := ⟨3, ![3, 1, 640]⟩
abbrev S1x10240 : Shape := ⟨2, ![1, 10240]⟩
abbrev S3x80x640 : Shape := ⟨3, ![3, 80, 640]⟩
abbrev S3x640 : Shape := ⟨2, ![3, 640]⟩
abbrev S1x128x10240 : Shape := ⟨3, ![1, 128, 10240]⟩
abbrev S1x80x128 : Shape := ⟨3, ![1, 80, 128]⟩
abbrev S128x128 : Shape := ⟨2, ![128, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S1x128 : Shape := ⟨2, ![1, 128]⟩
abbrev S1x1x128 : Shape := ⟨3, ![1, 1, 128]⟩
abbrev S3x128 : Shape := ⟨2, ![3, 128]⟩
abbrev S1x246 : Shape := ⟨2, ![1, 246]⟩
abbrev S32x246 : Shape := ⟨2, ![32, 246]⟩
abbrev S80x128 : Shape := ⟨2, ![80, 128]⟩
abbrev S246x1x1 : Shape := ⟨3, ![246, 1, 1]⟩
abbrev S246x80x128 : Shape := ⟨3, ![246, 80, 128]⟩
abbrev S640x3x80 : Shape := ⟨3, ![640, 3, 80]⟩
abbrev S640x3 : Shape := ⟨2, ![640, 3]⟩

abbrev nBuf : Space → Nat
  | .hbm => 19
  | .vmem => 14
  | .smem => 1
  | _ => 0

abbrev bufTy : (tb : Table) → Fin (tcTables nBuf tb) → BufTy
  | .hbm, ⟨0, _⟩ => ⟨S640x3x10240, .bf16⟩
  | .hbm, ⟨1, _⟩ => ⟨S1, .f32⟩
  | .hbm, ⟨2, _⟩ => ⟨S1x640x3, .f32⟩
  | .hbm, ⟨3, _⟩ => ⟨S1x640x3, .f32⟩
  | .hbm, ⟨4, _⟩ => ⟨S10240, .f32⟩
  | .hbm, ⟨5, _⟩ => ⟨S10240, .f32⟩
  | .hbm, ⟨6, _⟩ => ⟨S3x640x10240, .bf16⟩
  | .hbm, ⟨7, _⟩ => ⟨S3x1x640, .f32⟩
  | .hbm, ⟨8, _⟩ => ⟨S3x1x640, .f32⟩
  | .hbm, ⟨9, _⟩ => ⟨S1x10240, .f32⟩
  | .hbm, ⟨10, _⟩ => ⟨S1x10240, .f32⟩
  | .hbm, ⟨11, _⟩ => ⟨S3x640x10240, .fp8e4m3⟩
  | .hbm, ⟨12, _⟩ => ⟨S3x80x640, .f32⟩
  | .hbm, ⟨13, _⟩ => ⟨S3x640, .f32⟩
  | .hbm, ⟨14, _⟩ => ⟨S3x640, .f32⟩
  | .hbm, ⟨15, _⟩ => ⟨S640x3x10240, .fp8e4m3⟩
  | .hbm, ⟨16, _⟩ => ⟨S640x3x80, .f32⟩
  | .hbm, ⟨17, _⟩ => ⟨S640x3, .f32⟩
  | .hbm, ⟨18, _⟩ => ⟨S640x3, .f32⟩
  | .local _ .vmem, ⟨0, _⟩ => ⟨S1x128x10240, .bf16⟩
  | .local _ .vmem, ⟨1, _⟩ => ⟨S1x128x10240, .bf16⟩
  | .local _ .vmem, ⟨2, _⟩ => ⟨S3x1x640, .f32⟩
  | .local _ .vmem, ⟨3, _⟩ => ⟨S3x1x640, .f32⟩
  | .local _ .vmem, ⟨4, _⟩ => ⟨S1x10240, .f32⟩
  | .local _ .vmem, ⟨5, _⟩ => ⟨S1x10240, .f32⟩
  | .local _ .vmem, ⟨6, _⟩ => ⟨S1x128x10240, .fp8e4m3⟩
  | .local _ .vmem, ⟨7, _⟩ => ⟨S1x128x10240, .fp8e4m3⟩
  | .local _ .vmem, ⟨8, _⟩ => ⟨S1x80x128, .f32⟩
  | .local _ .vmem, ⟨9, _⟩ => ⟨S1x80x128, .f32⟩
  | .local _ .vmem, ⟨10, _⟩ => ⟨S3x640, .f32⟩
  | .local _ .vmem, ⟨11, _⟩ => ⟨S3x640, .f32⟩
  | .local _ .vmem, ⟨12, _⟩ => ⟨S128x128, .f32⟩
  | .local _ .vmem, ⟨13, _⟩ => ⟨S128x128, .f32⟩
  | .local _ .smem, ⟨0, _⟩ => ⟨S1, .f32⟩
  | _, _ => ⟨S640x3x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![3, 5], ![false, false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  v107
def k0_off1 (k0_t1 : Fin k0_t1_loop.trips) : Fin 3 → Nat :=
  let c0_36 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v110 : Index := Scalar.indexCast v108
  let c0_37 : Index := 0#32
  ![0, v110.toNat, 0]
def k0_off2 (k0_t1 : Fin k0_t1_loop.trips) : Fin 3 → Nat :=
  let c0_38 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v115 : Index := Scalar.indexCast v108
  let c128 : Index := 128#32
  ![0, v115.toNat, 128]
def k0_off3 (k0_t1 : Fin k0_t1_loop.trips) : Fin 3 → Nat :=
  let c0_39 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v120 : Index := Scalar.indexCast v108
  let c256 : Index := 256#32
  ![0, v120.toNat, 256]
def k0_off4 (k0_t1 : Fin k0_t1_loop.trips) : Fin 3 → Nat :=
  let c0_40 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v125 : Index := Scalar.indexCast v108
  let c384 : Index := 384#32
  ![0, v125.toNat, 384]
def k0_off5 (k0_t1 : Fin k0_t1_loop.trips) : Fin 3 → Nat :=
  let c0_41 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v130 : Index := Scalar.indexCast v108
  let c512 : Index := 512#32
  ![0, v130.toNat, 512]
def k0_off6 (k0_t1 : Fin k0_t1_loop.trips) : Fin 3 → Nat :=
  let c0_42 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v135 : Index := Scalar.indexCast v108
  let c640 : Index := 640#32
  ![0, v135.toNat, 640]
def k0_off7 (k0_t1 : Fin k0_t1_loop.trips) : Fin 3 → Nat :=
  let c0_43 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v140 : Index := Scalar.indexCast v108
  let c768 : Index := 768#32
  ![0, v140.toNat, 768]
def k0_off8 (k0_t1 : Fin k0_t1_loop.trips) : Fin 3 → Nat :=
  let c0_44 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v145 : Index := Scalar.indexCast v108
  let c896 : Index := 896#32
  ![0, v145.toNat, 896]
def k0_off9 (k0_t1 : Fin k0_t1_loop.trips) : Fin 3 → Nat :=
  let c0_45 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v150 : Index := Scalar.indexCast v108
  let c1024 : Index := 1024#32
  ![0, v150.toNat, 1024]
def k0_off10 (k0_t1 : Fin k0_t1_loop.trips) : Fin 3 → Nat :=
  let c0_46 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v155 : Index := Scalar.indexCast v108
  let c1152 : Index := 1152#32
  ![0, v155.toNat, 1152]
def k0_off11 (k0_t1 : Fin k0_t1_loop.trips) : Fin 3 → Nat :=
  let c0_47 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v160 : Index := Scalar.indexCast v108
  let c1280 : Index := 1280#32
  ![0, v160.toNat, 1280]
def k0_off12 (k0_t1 : Fin k0_t1_loop.trips) : Fin 3 → Nat :=
  let c0_48 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v165 : Index := Scalar.indexCast v108
  let c1408 : Index := 1408#32
  ![0, v165.toNat, 1408]
def k0_off13 (k0_t1 : Fin k0_t1_loop.trips) : Fin 3 → Nat :=
  let c0_49 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v170 : Index := Scalar.indexCast v108
  let c1536 : Index := 1536#32
  ![0, v170.toNat, 1536]
def k0_off14 (k0_t1 : Fin k0_t1_loop.trips) : Fin 3 → Nat :=
  let c0_50 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v175 : Index := Scalar.indexCast v108
  let c1664 : Index := 1664#32
  ![0, v175.toNat, 1664]
def k0_off15 (k0_t1 : Fin k0_t1_loop.trips) : Fin 3 → Nat :=
  let c0_51 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v180 : Index := Scalar.indexCast v108
  let c1792 : Index := 1792#32
  ![0, v180.toNat, 1792]
def k0_off16 (k0_t1 : Fin k0_t1_loop.trips) : Fin 3 → Nat :=
  let c0_52 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v185 : Index := Scalar.indexCast v108
  let c1920 : Index := 1920#32
  ![0, v185.toNat, 1920]
def k0_off17 (k0_t1 : Fin k0_t1_loop.trips) : Fin 3 → Nat :=
  let c0_53 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v190 : Index := Scalar.indexCast v108
  let c2048 : Index := 2048#32
  ![0, v190.toNat, 2048]
def k0_off18 (k0_t1 : Fin k0_t1_loop.trips) : Fin 3 → Nat :=
  let c0_54 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v195 : Index := Scalar.indexCast v108
  let c2176 : Index := 2176#32
  ![0, v195.toNat, 2176]
def k0_off19 (k0_t1 : Fin k0_t1_loop.trips) : Fin 3 → Nat :=
  let c0_55 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v200 : Index := Scalar.indexCast v108
  let c2304 : Index := 2304#32
  ![0, v200.toNat, 2304]
def k0_off20 (k0_t1 : Fin k0_t1_loop.trips) : Fin 3 → Nat :=
  let c0_56 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v205 : Index := Scalar.indexCast v108
  let c2432 : Index := 2432#32
  ![0, v205.toNat, 2432]
def k0_off21 (k0_t1 : Fin k0_t1_loop.trips) : Fin 3 → Nat :=
  let c0_57 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v210 : Index := Scalar.indexCast v108
  let c2560 : Index := 2560#32
  ![0, v210.toNat, 2560]
def k0_off22 (k0_t1 : Fin k0_t1_loop.trips) : Fin 3 → Nat :=
  let c0_58 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v215 : Index := Scalar.indexCast v108
  let c2688 : Index := 2688#32
  ![0, v215.toNat, 2688]
def k0_off23 (k0_t1 : Fin k0_t1_loop.trips) : Fin 3 → Nat :=
  let c0_59 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v220 : Index := Scalar.indexCast v108
  let c2816 : Index := 2816#32
  ![0, v220.toNat, 2816]
def k0_off24 (k0_t1 : Fin k0_t1_loop.trips) : Fin 3 → Nat :=
  let c0_60 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v225 : Index := Scalar.indexCast v108
  let c2944 : Index := 2944#32
  ![0, v225.toNat, 2944]
def k0_off25 (k0_t1 : Fin k0_t1_loop.trips) : Fin 3 → Nat :=
  let c0_61 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v230 : Index := Scalar.indexCast v108
  let c3072 : Index := 3072#32
  ![0, v230.toNat, 3072]
def k0_off26 (k0_t1 : Fin k0_t1_loop.trips) : Fin 3 → Nat :=
  let c0_62 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v235 : Index := Scalar.indexCast v108
  let c3200 : Index := 3200#32
  ![0, v235.toNat, 3200]
def k0_off27 (k0_t1 : Fin k0_t1_loop.trips) : Fin 3 → Nat :=
  let c0_63 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v240 : Index := Scalar.indexCast v108
  let c3328 : Index := 3328#32
  ![0, v240.toNat, 3328]
def k0_off28 (k0_t1 : Fin k0_t1_loop.trips) : Fin 3 → Nat :=
  let c0_64 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v245 : Index := Scalar.indexCast v108
  let c3456 : Index := 3456#32
  ![0, v245.toNat, 3456]
def k0_off29 (k0_t1 : Fin k0_t1_loop.trips) : Fin 3 → Nat :=
  let c0_65 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v250 : Index := Scalar.indexCast v108
  let c3584 : Index := 3584#32
  ![0, v250.toNat, 3584]
def k0_off30 (k0_t1 : Fin k0_t1_loop.trips) : Fin 3 → Nat :=
  let c0_66 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v255 : Index := Scalar.indexCast v108
  let c3712 : Index := 3712#32
  ![0, v255.toNat, 3712]
def k0_off31 (k0_t1 : Fin k0_t1_loop.trips) : Fin 3 → Nat :=
  let c0_67 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v260 : Index := Scalar.indexCast v108
  let c3840 : Index := 3840#32
  ![0, v260.toNat, 3840]
def k0_off32 (k0_t1 : Fin k0_t1_loop.trips) : Fin 3 → Nat :=
  let c0_68 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v265 : Index := Scalar.indexCast v108
  let c3968 : Index := 3968#32
  ![0, v265.toNat, 3968]
def k0_off33 (k0_t1 : Fin k0_t1_loop.trips) : Fin 3 → Nat :=
  let c0_69 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v270 : Index := Scalar.indexCast v108
  let c4096 : Index := 4096#32
  ![0, v270.toNat, 4096]
def k0_off34 (k0_t1 : Fin k0_t1_loop.trips) : Fin 3 → Nat :=
  let c0_70 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v275 : Index := Scalar.indexCast v108
  let c4224 : Index := 4224#32
  ![0, v275.toNat, 4224]
def k0_off35 (k0_t1 : Fin k0_t1_loop.trips) : Fin 3 → Nat :=
  let c0_71 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v280 : Index := Scalar.indexCast v108
  let c4352 : Index := 4352#32
  ![0, v280.toNat, 4352]
def k0_off36 (k0_t1 : Fin k0_t1_loop.trips) : Fin 3 → Nat :=
  let c0_72 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v285 : Index := Scalar.indexCast v108
  let c4480 : Index := 4480#32
  ![0, v285.toNat, 4480]
def k0_off37 (k0_t1 : Fin k0_t1_loop.trips) : Fin 3 → Nat :=
  let c0_73 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v290 : Index := Scalar.indexCast v108
  let c4608 : Index := 4608#32
  ![0, v290.toNat, 4608]
def k0_off38 (k0_t1 : Fin k0_t1_loop.trips) : Fin 3 → Nat :=
  let c0_74 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v295 : Index := Scalar.indexCast v108
  let c4736 : Index := 4736#32
  ![0, v295.toNat, 4736]
def k0_off39 (k0_t1 : Fin k0_t1_loop.trips) : Fin 3 → Nat :=
  let c0_75 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v300 : Index := Scalar.indexCast v108
  let c4864 : Index := 4864#32
  ![0, v300.toNat, 4864]
def k0_off40 (k0_t1 : Fin k0_t1_loop.trips) : Fin 3 → Nat :=
  let c0_76 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v305 : Index := Scalar.indexCast v108
  let c4992 : Index := 4992#32
  ![0, v305.toNat, 4992]
def k0_off41 (k0_t1 : Fin k0_t1_loop.trips) : Fin 3 → Nat :=
  let c0_77 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v310 : Index := Scalar.indexCast v108
  let c5120 : Index := 5120#32
  ![0, v310.toNat, 5120]
def k0_off42 (k0_t1 : Fin k0_t1_loop.trips) : Fin 3 → Nat :=
  let c0_78 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v315 : Index := Scalar.indexCast v108
  let c5248 : Index := 5248#32
  ![0, v315.toNat, 5248]
def k0_off43 (k0_t1 : Fin k0_t1_loop.trips) : Fin 3 → Nat :=
  let c0_79 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v320 : Index := Scalar.indexCast v108
  let c5376 : Index := 5376#32
  ![0, v320.toNat, 5376]
def k0_off44 (k0_t1 : Fin k0_t1_loop.trips) : Fin 3 → Nat :=
  let c0_80 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v325 : Index := Scalar.indexCast v108
  let c5504 : Index := 5504#32
  ![0, v325.toNat, 5504]
def k0_off45 (k0_t1 : Fin k0_t1_loop.trips) : Fin 3 → Nat :=
  let c0_81 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v330 : Index := Scalar.indexCast v108
  let c5632 : Index := 5632#32
  ![0, v330.toNat, 5632]
def k0_off46 (k0_t1 : Fin k0_t1_loop.trips) : Fin 3 → Nat :=
  let c0_82 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v335 : Index := Scalar.indexCast v108
  let c5760 : Index := 5760#32
  ![0, v335.toNat, 5760]
def k0_off47 (k0_t1 : Fin k0_t1_loop.trips) : Fin 3 → Nat :=
  let c0_83 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v340 : Index := Scalar.indexCast v108
  let c5888 : Index := 5888#32
  ![0, v340.toNat, 5888]
def k0_off48 (k0_t1 : Fin k0_t1_loop.trips) : Fin 3 → Nat :=
  let c0_84 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v345 : Index := Scalar.indexCast v108
  let c6016 : Index := 6016#32
  ![0, v345.toNat, 6016]
def k0_off49 (k0_t1 : Fin k0_t1_loop.trips) : Fin 3 → Nat :=
  let c0_85 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v350 : Index := Scalar.indexCast v108
  let c6144 : Index := 6144#32
  ![0, v350.toNat, 6144]
def k0_off50 (k0_t1 : Fin k0_t1_loop.trips) : Fin 3 → Nat :=
  let c0_86 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v355 : Index := Scalar.indexCast v108
  let c6272 : Index := 6272#32
  ![0, v355.toNat, 6272]
def k0_off51 (k0_t1 : Fin k0_t1_loop.trips) : Fin 3 → Nat :=
  let c0_87 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v360 : Index := Scalar.indexCast v108
  let c6400 : Index := 6400#32
  ![0, v360.toNat, 6400]
def k0_off52 (k0_t1 : Fin k0_t1_loop.trips) : Fin 3 → Nat :=
  let c0_88 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v365 : Index := Scalar.indexCast v108
  let c6528 : Index := 6528#32
  ![0, v365.toNat, 6528]
def k0_off53 (k0_t1 : Fin k0_t1_loop.trips) : Fin 3 → Nat :=
  let c0_89 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v370 : Index := Scalar.indexCast v108
  let c6656 : Index := 6656#32
  ![0, v370.toNat, 6656]
def k0_off54 (k0_t1 : Fin k0_t1_loop.trips) : Fin 3 → Nat :=
  let c0_90 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v375 : Index := Scalar.indexCast v108
  let c6784 : Index := 6784#32
  ![0, v375.toNat, 6784]
def k0_off55 (k0_t1 : Fin k0_t1_loop.trips) : Fin 3 → Nat :=
  let c0_91 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v380 : Index := Scalar.indexCast v108
  let c6912 : Index := 6912#32
  ![0, v380.toNat, 6912]
def k0_off56 (k0_t1 : Fin k0_t1_loop.trips) : Fin 3 → Nat :=
  let c0_92 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v385 : Index := Scalar.indexCast v108
  let c7040 : Index := 7040#32
  ![0, v385.toNat, 7040]
def k0_off57 (k0_t1 : Fin k0_t1_loop.trips) : Fin 3 → Nat :=
  let c0_93 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v390 : Index := Scalar.indexCast v108
  let c7168 : Index := 7168#32
  ![0, v390.toNat, 7168]
def k0_off58 (k0_t1 : Fin k0_t1_loop.trips) : Fin 3 → Nat :=
  let c0_94 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v395 : Index := Scalar.indexCast v108
  let c7296 : Index := 7296#32
  ![0, v395.toNat, 7296]
def k0_off59 (k0_t1 : Fin k0_t1_loop.trips) : Fin 3 → Nat :=
  let c0_95 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v400 : Index := Scalar.indexCast v108
  let c7424 : Index := 7424#32
  ![0, v400.toNat, 7424]
def k0_off60 (k0_t1 : Fin k0_t1_loop.trips) : Fin 3 → Nat :=
  let c0_96 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v405 : Index := Scalar.indexCast v108
  let c7552 : Index := 7552#32
  ![0, v405.toNat, 7552]
def k0_off61 (k0_t1 : Fin k0_t1_loop.trips) : Fin 3 → Nat :=
  let c0_97 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v410 : Index := Scalar.indexCast v108
  let c7680 : Index := 7680#32
  ![0, v410.toNat, 7680]
def k0_off62 (k0_t1 : Fin k0_t1_loop.trips) : Fin 3 → Nat :=
  let c0_98 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v415 : Index := Scalar.indexCast v108
  let c7808 : Index := 7808#32
  ![0, v415.toNat, 7808]
def k0_off63 (k0_t1 : Fin k0_t1_loop.trips) : Fin 3 → Nat :=
  let c0_99 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v420 : Index := Scalar.indexCast v108
  let c7936 : Index := 7936#32
  ![0, v420.toNat, 7936]
def k0_off64 (k0_t1 : Fin k0_t1_loop.trips) : Fin 3 → Nat :=
  let c0_100 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v425 : Index := Scalar.indexCast v108
  let c8064 : Index := 8064#32
  ![0, v425.toNat, 8064]
def k0_off65 (k0_t1 : Fin k0_t1_loop.trips) : Fin 3 → Nat :=
  let c0_101 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v430 : Index := Scalar.indexCast v108
  let c8192 : Index := 8192#32
  ![0, v430.toNat, 8192]
def k0_off66 (k0_t1 : Fin k0_t1_loop.trips) : Fin 3 → Nat :=
  let c0_102 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v435 : Index := Scalar.indexCast v108
  let c8320 : Index := 8320#32
  ![0, v435.toNat, 8320]
def k0_off67 (k0_t1 : Fin k0_t1_loop.trips) : Fin 3 → Nat :=
  let c0_103 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v440 : Index := Scalar.indexCast v108
  let c8448 : Index := 8448#32
  ![0, v440.toNat, 8448]
def k0_off68 (k0_t1 : Fin k0_t1_loop.trips) : Fin 3 → Nat :=
  let c0_104 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v445 : Index := Scalar.indexCast v108
  let c8576 : Index := 8576#32
  ![0, v445.toNat, 8576]
def k0_off69 (k0_t1 : Fin k0_t1_loop.trips) : Fin 3 → Nat :=
  let c0_105 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v450 : Index := Scalar.indexCast v108
  let c8704 : Index := 8704#32
  ![0, v450.toNat, 8704]
def k0_off70 (k0_t1 : Fin k0_t1_loop.trips) : Fin 3 → Nat :=
  let c0_106 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v455 : Index := Scalar.indexCast v108
  let c8832 : Index := 8832#32
  ![0, v455.toNat, 8832]
def k0_off71 (k0_t1 : Fin k0_t1_loop.trips) : Fin 3 → Nat :=
  let c0_107 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v460 : Index := Scalar.indexCast v108
  let c8960 : Index := 8960#32
  ![0, v460.toNat, 8960]
def k0_off72 (k0_t1 : Fin k0_t1_loop.trips) : Fin 3 → Nat :=
  let c0_108 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v465 : Index := Scalar.indexCast v108
  let c9088 : Index := 9088#32
  ![0, v465.toNat, 9088]
def k0_off73 (k0_t1 : Fin k0_t1_loop.trips) : Fin 3 → Nat :=
  let c0_109 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v470 : Index := Scalar.indexCast v108
  let c9216 : Index := 9216#32
  ![0, v470.toNat, 9216]
def k0_off74 (k0_t1 : Fin k0_t1_loop.trips) : Fin 3 → Nat :=
  let c0_110 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v475 : Index := Scalar.indexCast v108
  let c9344 : Index := 9344#32
  ![0, v475.toNat, 9344]
def k0_off75 (k0_t1 : Fin k0_t1_loop.trips) : Fin 3 → Nat :=
  let c0_111 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v480 : Index := Scalar.indexCast v108
  let c9472 : Index := 9472#32
  ![0, v480.toNat, 9472]
def k0_off76 (k0_t1 : Fin k0_t1_loop.trips) : Fin 3 → Nat :=
  let c0_112 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v485 : Index := Scalar.indexCast v108
  let c9600 : Index := 9600#32
  ![0, v485.toNat, 9600]
def k0_off77 (k0_t1 : Fin k0_t1_loop.trips) : Fin 3 → Nat :=
  let c0_113 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v490 : Index := Scalar.indexCast v108
  let c9728 : Index := 9728#32
  ![0, v490.toNat, 9728]
def k0_off78 (k0_t1 : Fin k0_t1_loop.trips) : Fin 3 → Nat :=
  let c0_114 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v495 : Index := Scalar.indexCast v108
  let c9856 : Index := 9856#32
  ![0, v495.toNat, 9856]
def k0_off79 (k0_t1 : Fin k0_t1_loop.trips) : Fin 3 → Nat :=
  let c0_115 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v500 : Index := Scalar.indexCast v108
  let c9984 : Index := 9984#32
  ![0, v500.toNat, 9984]
def k0_off80 (k0_t1 : Fin k0_t1_loop.trips) : Fin 3 → Nat :=
  let c0_116 : Index := 0#32
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v505 : Index := Scalar.indexCast v108
  let c10112 : Index := 10112#32
  ![0, v505.toNat, 10112]
def k0_off81 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v1157 : Index := Scalar.indexCast v108
  let c0_280 : Index := 0#32
  ![v1157.toNat, 0]
def k0_off82 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v107 : BitVec 32 := Scalar.muli arg14 c32_i32
  let v108 : BitVec 32 := v107
  let v1161 : Index := Scalar.indexCast v108
  let c1 : Index := 1#32
  ![v1161.toNat, 1]
def k0_mult2 (i : grid0.Coords) : BitVec 32 :=
  let arg1 : BitVec 32 := BitVec.ofNat 32 (i 1).val
  let c128_i32 : BitVec 32 := 128#32
  let v7 : BitVec 32 := Scalar.muli arg1 c128_i32
  v7
def k0_off83 (i : grid0.Coords) : Fin 3 → Nat :=
  let arg0 : BitVec 32 := BitVec.ofNat 32 (i 0).val
  let v9 : Index := Scalar.indexCast arg0
  let c0_4 : Index := 0#32
  let arg1 : BitVec 32 := BitVec.ofNat 32 (i 1).val
  let c128_i32 : BitVec 32 := 128#32
  let v7 : BitVec 32 := Scalar.muli arg1 c128_i32
  let v8 : BitVec 32 := v7
  let v10 : Index := Scalar.indexCast v8
  ![v9.toNat, 0, v10.toNat]
def k0_off84 (i : grid0.Coords) : Fin 2 → Nat :=
  let c0_11 : Index := 0#32
  let arg1 : BitVec 32 := BitVec.ofNat 32 (i 1).val
  let c128_i32 : BitVec 32 := 128#32
  let v7 : BitVec 32 := Scalar.muli arg1 c128_i32
  let v8 : BitVec 32 := v7
  let v42 : Index := Scalar.indexCast v8
  ![0, v42.toNat]
@[reducible] def k0_t2_loop : Scf.Loop 32 :=
  let c0_i32_18 : BitVec 32 := 0#32
  let c4_i32_19 : BitVec 32 := 4#32
  let v72 : BitVec 32 := Scalar.addi c0_i32_18 c4_i32_19
  let c1_i32_20 : BitVec 32 := 1#32
  ⟨c0_i32_18, v72, c1_i32_20⟩
def k0_mult3 (k0_t2 : Fin k0_t2_loop.trips) : BitVec 32 :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  v107
def k0_off85 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v109 : Index := Scalar.indexCast v108
  let c0_35 : Index := 0#32
  ![v109.toNat, 0]
def k0_off86 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v111 : Index := Scalar.indexCast v108
  let c1 : Index := 1#32
  ![v111.toNat, 1]
def k0_off87 (k0_t2 : Fin k0_t2_loop.trips) : Fin 3 → Nat :=
  let c0_36 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v113 : Index := Scalar.indexCast v108
  let c0_37 : Index := 0#32
  ![0, v113.toNat, 0]
def k0_off88 (k0_t2 : Fin k0_t2_loop.trips) : Fin 3 → Nat :=
  let c0_59 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v175 : Index := Scalar.indexCast v108
  let c128 : Index := 128#32
  ![0, v175.toNat, 128]
def k0_off89 (k0_t2 : Fin k0_t2_loop.trips) : Fin 3 → Nat :=
  let c0_81 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v237 : Index := Scalar.indexCast v108
  let c256 : Index := 256#32
  ![0, v237.toNat, 256]
def k0_off90 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v256 : Index := Scalar.indexCast v108
  let c2 : Index := 2#32
  ![v256.toNat, 2]
def k0_off91 (k0_t2 : Fin k0_t2_loop.trips) : Fin 3 → Nat :=
  let c0_102 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v299 : Index := Scalar.indexCast v108
  let c384 : Index := 384#32
  ![0, v299.toNat, 384]
def k0_off92 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v318 : Index := Scalar.indexCast v108
  let c3 : Index := 3#32
  ![v318.toNat, 3]
def k0_off93 (k0_t2 : Fin k0_t2_loop.trips) : Fin 3 → Nat :=
  let c0_123 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v361 : Index := Scalar.indexCast v108
  let c512 : Index := 512#32
  ![0, v361.toNat, 512]
def k0_off94 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v380 : Index := Scalar.indexCast v108
  let c4 : Index := 4#32
  ![v380.toNat, 4]
def k0_off95 (k0_t2 : Fin k0_t2_loop.trips) : Fin 3 → Nat :=
  let c0_144 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v423 : Index := Scalar.indexCast v108
  let c640 : Index := 640#32
  ![0, v423.toNat, 640]
def k0_off96 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v442 : Index := Scalar.indexCast v108
  let c5 : Index := 5#32
  ![v442.toNat, 5]
def k0_off97 (k0_t2 : Fin k0_t2_loop.trips) : Fin 3 → Nat :=
  let c0_165 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v485 : Index := Scalar.indexCast v108
  let c768 : Index := 768#32
  ![0, v485.toNat, 768]
def k0_off98 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v504 : Index := Scalar.indexCast v108
  let c6 : Index := 6#32
  ![v504.toNat, 6]
def k0_off99 (k0_t2 : Fin k0_t2_loop.trips) : Fin 3 → Nat :=
  let c0_186 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v547 : Index := Scalar.indexCast v108
  let c896 : Index := 896#32
  ![0, v547.toNat, 896]
def k0_off100 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v566 : Index := Scalar.indexCast v108
  let c7 : Index := 7#32
  ![v566.toNat, 7]
def k0_off101 (k0_t2 : Fin k0_t2_loop.trips) : Fin 3 → Nat :=
  let c0_207 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v609 : Index := Scalar.indexCast v108
  let c1024 : Index := 1024#32
  ![0, v609.toNat, 1024]
def k0_off102 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v628 : Index := Scalar.indexCast v108
  let c8 : Index := 8#32
  ![v628.toNat, 8]
def k0_off103 (k0_t2 : Fin k0_t2_loop.trips) : Fin 3 → Nat :=
  let c0_228 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v671 : Index := Scalar.indexCast v108
  let c1152 : Index := 1152#32
  ![0, v671.toNat, 1152]
def k0_off104 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v690 : Index := Scalar.indexCast v108
  let c9 : Index := 9#32
  ![v690.toNat, 9]
def k0_off105 (k0_t2 : Fin k0_t2_loop.trips) : Fin 3 → Nat :=
  let c0_249 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v733 : Index := Scalar.indexCast v108
  let c1280 : Index := 1280#32
  ![0, v733.toNat, 1280]
def k0_off106 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v752 : Index := Scalar.indexCast v108
  let c10 : Index := 10#32
  ![v752.toNat, 10]
def k0_off107 (k0_t2 : Fin k0_t2_loop.trips) : Fin 3 → Nat :=
  let c0_270 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v795 : Index := Scalar.indexCast v108
  let c1408 : Index := 1408#32
  ![0, v795.toNat, 1408]
def k0_off108 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v814 : Index := Scalar.indexCast v108
  let c11 : Index := 11#32
  ![v814.toNat, 11]
def k0_off109 (k0_t2 : Fin k0_t2_loop.trips) : Fin 3 → Nat :=
  let c0_291 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v857 : Index := Scalar.indexCast v108
  let c1536 : Index := 1536#32
  ![0, v857.toNat, 1536]
def k0_off110 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v876 : Index := Scalar.indexCast v108
  let c12 : Index := 12#32
  ![v876.toNat, 12]
def k0_off111 (k0_t2 : Fin k0_t2_loop.trips) : Fin 3 → Nat :=
  let c0_312 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v919 : Index := Scalar.indexCast v108
  let c1664 : Index := 1664#32
  ![0, v919.toNat, 1664]
def k0_off112 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v938 : Index := Scalar.indexCast v108
  let c13 : Index := 13#32
  ![v938.toNat, 13]
def k0_off113 (k0_t2 : Fin k0_t2_loop.trips) : Fin 3 → Nat :=
  let c0_333 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v981 : Index := Scalar.indexCast v108
  let c1792 : Index := 1792#32
  ![0, v981.toNat, 1792]
def k0_off114 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1000 : Index := Scalar.indexCast v108
  let c14 : Index := 14#32
  ![v1000.toNat, 14]
def k0_off115 (k0_t2 : Fin k0_t2_loop.trips) : Fin 3 → Nat :=
  let c0_354 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1043 : Index := Scalar.indexCast v108
  let c1920 : Index := 1920#32
  ![0, v1043.toNat, 1920]
def k0_off116 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1062 : Index := Scalar.indexCast v108
  let c15 : Index := 15#32
  ![v1062.toNat, 15]
def k0_off117 (k0_t2 : Fin k0_t2_loop.trips) : Fin 3 → Nat :=
  let c0_375 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1105 : Index := Scalar.indexCast v108
  let c2048 : Index := 2048#32
  ![0, v1105.toNat, 2048]
def k0_off118 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1124 : Index := Scalar.indexCast v108
  let c16 : Index := 16#32
  ![v1124.toNat, 16]
def k0_off119 (k0_t2 : Fin k0_t2_loop.trips) : Fin 3 → Nat :=
  let c0_396 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1167 : Index := Scalar.indexCast v108
  let c2176 : Index := 2176#32
  ![0, v1167.toNat, 2176]
def k0_off120 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1186 : Index := Scalar.indexCast v108
  let c17 : Index := 17#32
  ![v1186.toNat, 17]
def k0_off121 (k0_t2 : Fin k0_t2_loop.trips) : Fin 3 → Nat :=
  let c0_417 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1229 : Index := Scalar.indexCast v108
  let c2304 : Index := 2304#32
  ![0, v1229.toNat, 2304]
def k0_off122 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1248 : Index := Scalar.indexCast v108
  let c18 : Index := 18#32
  ![v1248.toNat, 18]
def k0_off123 (k0_t2 : Fin k0_t2_loop.trips) : Fin 3 → Nat :=
  let c0_438 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1291 : Index := Scalar.indexCast v108
  let c2432 : Index := 2432#32
  ![0, v1291.toNat, 2432]
def k0_off124 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1310 : Index := Scalar.indexCast v108
  let c19 : Index := 19#32
  ![v1310.toNat, 19]
def k0_off125 (k0_t2 : Fin k0_t2_loop.trips) : Fin 3 → Nat :=
  let c0_459 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1353 : Index := Scalar.indexCast v108
  let c2560 : Index := 2560#32
  ![0, v1353.toNat, 2560]
def k0_off126 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1372 : Index := Scalar.indexCast v108
  let c20 : Index := 20#32
  ![v1372.toNat, 20]
def k0_off127 (k0_t2 : Fin k0_t2_loop.trips) : Fin 3 → Nat :=
  let c0_480 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1415 : Index := Scalar.indexCast v108
  let c2688 : Index := 2688#32
  ![0, v1415.toNat, 2688]
def k0_off128 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1434 : Index := Scalar.indexCast v108
  let c21 : Index := 21#32
  ![v1434.toNat, 21]
def k0_off129 (k0_t2 : Fin k0_t2_loop.trips) : Fin 3 → Nat :=
  let c0_501 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1477 : Index := Scalar.indexCast v108
  let c2816 : Index := 2816#32
  ![0, v1477.toNat, 2816]
def k0_off130 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1496 : Index := Scalar.indexCast v108
  let c22 : Index := 22#32
  ![v1496.toNat, 22]
def k0_off131 (k0_t2 : Fin k0_t2_loop.trips) : Fin 3 → Nat :=
  let c0_522 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1539 : Index := Scalar.indexCast v108
  let c2944 : Index := 2944#32
  ![0, v1539.toNat, 2944]
def k0_off132 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1558 : Index := Scalar.indexCast v108
  let c23 : Index := 23#32
  ![v1558.toNat, 23]
def k0_off133 (k0_t2 : Fin k0_t2_loop.trips) : Fin 3 → Nat :=
  let c0_543 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1601 : Index := Scalar.indexCast v108
  let c3072 : Index := 3072#32
  ![0, v1601.toNat, 3072]
def k0_off134 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1620 : Index := Scalar.indexCast v108
  let c24 : Index := 24#32
  ![v1620.toNat, 24]
def k0_off135 (k0_t2 : Fin k0_t2_loop.trips) : Fin 3 → Nat :=
  let c0_564 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1663 : Index := Scalar.indexCast v108
  let c3200 : Index := 3200#32
  ![0, v1663.toNat, 3200]
def k0_off136 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1682 : Index := Scalar.indexCast v108
  let c25 : Index := 25#32
  ![v1682.toNat, 25]
def k0_off137 (k0_t2 : Fin k0_t2_loop.trips) : Fin 3 → Nat :=
  let c0_585 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1725 : Index := Scalar.indexCast v108
  let c3328 : Index := 3328#32
  ![0, v1725.toNat, 3328]
def k0_off138 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1744 : Index := Scalar.indexCast v108
  let c26 : Index := 26#32
  ![v1744.toNat, 26]
def k0_off139 (k0_t2 : Fin k0_t2_loop.trips) : Fin 3 → Nat :=
  let c0_606 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1787 : Index := Scalar.indexCast v108
  let c3456 : Index := 3456#32
  ![0, v1787.toNat, 3456]
def k0_off140 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1806 : Index := Scalar.indexCast v108
  let c27 : Index := 27#32
  ![v1806.toNat, 27]
def k0_off141 (k0_t2 : Fin k0_t2_loop.trips) : Fin 3 → Nat :=
  let c0_627 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1849 : Index := Scalar.indexCast v108
  let c3584 : Index := 3584#32
  ![0, v1849.toNat, 3584]
def k0_off142 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1868 : Index := Scalar.indexCast v108
  let c28 : Index := 28#32
  ![v1868.toNat, 28]
def k0_off143 (k0_t2 : Fin k0_t2_loop.trips) : Fin 3 → Nat :=
  let c0_648 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1911 : Index := Scalar.indexCast v108
  let c3712 : Index := 3712#32
  ![0, v1911.toNat, 3712]
def k0_off144 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1930 : Index := Scalar.indexCast v108
  let c29 : Index := 29#32
  ![v1930.toNat, 29]
def k0_off145 (k0_t2 : Fin k0_t2_loop.trips) : Fin 3 → Nat :=
  let c0_669 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1973 : Index := Scalar.indexCast v108
  let c3840 : Index := 3840#32
  ![0, v1973.toNat, 3840]
def k0_off146 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v1992 : Index := Scalar.indexCast v108
  let c30 : Index := 30#32
  ![v1992.toNat, 30]
def k0_off147 (k0_t2 : Fin k0_t2_loop.trips) : Fin 3 → Nat :=
  let c0_690 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2035 : Index := Scalar.indexCast v108
  let c3968 : Index := 3968#32
  ![0, v2035.toNat, 3968]
def k0_off148 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2054 : Index := Scalar.indexCast v108
  let c31 : Index := 31#32
  ![v2054.toNat, 31]
def k0_off149 (k0_t2 : Fin k0_t2_loop.trips) : Fin 3 → Nat :=
  let c0_711 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2097 : Index := Scalar.indexCast v108
  let c4096 : Index := 4096#32
  ![0, v2097.toNat, 4096]
def k0_off150 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2116 : Index := Scalar.indexCast v108
  let c32 : Index := 32#32
  ![v2116.toNat, 32]
def k0_off151 (k0_t2 : Fin k0_t2_loop.trips) : Fin 3 → Nat :=
  let c0_732 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2159 : Index := Scalar.indexCast v108
  let c4224 : Index := 4224#32
  ![0, v2159.toNat, 4224]
def k0_off152 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2178 : Index := Scalar.indexCast v108
  let c33 : Index := 33#32
  ![v2178.toNat, 33]
def k0_off153 (k0_t2 : Fin k0_t2_loop.trips) : Fin 3 → Nat :=
  let c0_753 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2221 : Index := Scalar.indexCast v108
  let c4352 : Index := 4352#32
  ![0, v2221.toNat, 4352]
def k0_off154 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2240 : Index := Scalar.indexCast v108
  let c34 : Index := 34#32
  ![v2240.toNat, 34]
def k0_off155 (k0_t2 : Fin k0_t2_loop.trips) : Fin 3 → Nat :=
  let c0_774 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2283 : Index := Scalar.indexCast v108
  let c4480 : Index := 4480#32
  ![0, v2283.toNat, 4480]
def k0_off156 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2302 : Index := Scalar.indexCast v108
  let c35 : Index := 35#32
  ![v2302.toNat, 35]
def k0_off157 (k0_t2 : Fin k0_t2_loop.trips) : Fin 3 → Nat :=
  let c0_795 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2345 : Index := Scalar.indexCast v108
  let c4608 : Index := 4608#32
  ![0, v2345.toNat, 4608]
def k0_off158 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2364 : Index := Scalar.indexCast v108
  let c36 : Index := 36#32
  ![v2364.toNat, 36]
def k0_off159 (k0_t2 : Fin k0_t2_loop.trips) : Fin 3 → Nat :=
  let c0_816 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2407 : Index := Scalar.indexCast v108
  let c4736 : Index := 4736#32
  ![0, v2407.toNat, 4736]
def k0_off160 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2426 : Index := Scalar.indexCast v108
  let c37 : Index := 37#32
  ![v2426.toNat, 37]
def k0_off161 (k0_t2 : Fin k0_t2_loop.trips) : Fin 3 → Nat :=
  let c0_837 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2469 : Index := Scalar.indexCast v108
  let c4864 : Index := 4864#32
  ![0, v2469.toNat, 4864]
def k0_off162 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2488 : Index := Scalar.indexCast v108
  let c38 : Index := 38#32
  ![v2488.toNat, 38]
def k0_off163 (k0_t2 : Fin k0_t2_loop.trips) : Fin 3 → Nat :=
  let c0_858 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2531 : Index := Scalar.indexCast v108
  let c4992 : Index := 4992#32
  ![0, v2531.toNat, 4992]
def k0_off164 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2550 : Index := Scalar.indexCast v108
  let c39 : Index := 39#32
  ![v2550.toNat, 39]
def k0_off165 (k0_t2 : Fin k0_t2_loop.trips) : Fin 3 → Nat :=
  let c0_879 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2593 : Index := Scalar.indexCast v108
  let c5120 : Index := 5120#32
  ![0, v2593.toNat, 5120]
def k0_off166 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2612 : Index := Scalar.indexCast v108
  let c40 : Index := 40#32
  ![v2612.toNat, 40]
def k0_off167 (k0_t2 : Fin k0_t2_loop.trips) : Fin 3 → Nat :=
  let c0_900 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2655 : Index := Scalar.indexCast v108
  let c5248 : Index := 5248#32
  ![0, v2655.toNat, 5248]
def k0_off168 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2674 : Index := Scalar.indexCast v108
  let c41 : Index := 41#32
  ![v2674.toNat, 41]
def k0_off169 (k0_t2 : Fin k0_t2_loop.trips) : Fin 3 → Nat :=
  let c0_921 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2717 : Index := Scalar.indexCast v108
  let c5376 : Index := 5376#32
  ![0, v2717.toNat, 5376]
def k0_off170 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2736 : Index := Scalar.indexCast v108
  let c42 : Index := 42#32
  ![v2736.toNat, 42]
def k0_off171 (k0_t2 : Fin k0_t2_loop.trips) : Fin 3 → Nat :=
  let c0_942 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2779 : Index := Scalar.indexCast v108
  let c5504 : Index := 5504#32
  ![0, v2779.toNat, 5504]
def k0_off172 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2798 : Index := Scalar.indexCast v108
  let c43 : Index := 43#32
  ![v2798.toNat, 43]
def k0_off173 (k0_t2 : Fin k0_t2_loop.trips) : Fin 3 → Nat :=
  let c0_963 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2841 : Index := Scalar.indexCast v108
  let c5632 : Index := 5632#32
  ![0, v2841.toNat, 5632]
def k0_off174 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2860 : Index := Scalar.indexCast v108
  let c44 : Index := 44#32
  ![v2860.toNat, 44]
def k0_off175 (k0_t2 : Fin k0_t2_loop.trips) : Fin 3 → Nat :=
  let c0_984 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2903 : Index := Scalar.indexCast v108
  let c5760 : Index := 5760#32
  ![0, v2903.toNat, 5760]
def k0_off176 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2922 : Index := Scalar.indexCast v108
  let c45 : Index := 45#32
  ![v2922.toNat, 45]
def k0_off177 (k0_t2 : Fin k0_t2_loop.trips) : Fin 3 → Nat :=
  let c0_1005 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2965 : Index := Scalar.indexCast v108
  let c5888 : Index := 5888#32
  ![0, v2965.toNat, 5888]
def k0_off178 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v2984 : Index := Scalar.indexCast v108
  let c46 : Index := 46#32
  ![v2984.toNat, 46]
def k0_off179 (k0_t2 : Fin k0_t2_loop.trips) : Fin 3 → Nat :=
  let c0_1026 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3027 : Index := Scalar.indexCast v108
  let c6016 : Index := 6016#32
  ![0, v3027.toNat, 6016]
def k0_off180 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3046 : Index := Scalar.indexCast v108
  let c47 : Index := 47#32
  ![v3046.toNat, 47]
def k0_off181 (k0_t2 : Fin k0_t2_loop.trips) : Fin 3 → Nat :=
  let c0_1047 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3089 : Index := Scalar.indexCast v108
  let c6144 : Index := 6144#32
  ![0, v3089.toNat, 6144]
def k0_off182 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3108 : Index := Scalar.indexCast v108
  let c48 : Index := 48#32
  ![v3108.toNat, 48]
def k0_off183 (k0_t2 : Fin k0_t2_loop.trips) : Fin 3 → Nat :=
  let c0_1068 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3151 : Index := Scalar.indexCast v108
  let c6272 : Index := 6272#32
  ![0, v3151.toNat, 6272]
def k0_off184 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3170 : Index := Scalar.indexCast v108
  let c49 : Index := 49#32
  ![v3170.toNat, 49]
def k0_off185 (k0_t2 : Fin k0_t2_loop.trips) : Fin 3 → Nat :=
  let c0_1089 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3213 : Index := Scalar.indexCast v108
  let c6400 : Index := 6400#32
  ![0, v3213.toNat, 6400]
def k0_off186 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3232 : Index := Scalar.indexCast v108
  let c50 : Index := 50#32
  ![v3232.toNat, 50]
def k0_off187 (k0_t2 : Fin k0_t2_loop.trips) : Fin 3 → Nat :=
  let c0_1110 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3275 : Index := Scalar.indexCast v108
  let c6528 : Index := 6528#32
  ![0, v3275.toNat, 6528]
def k0_off188 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3294 : Index := Scalar.indexCast v108
  let c51 : Index := 51#32
  ![v3294.toNat, 51]
def k0_off189 (k0_t2 : Fin k0_t2_loop.trips) : Fin 3 → Nat :=
  let c0_1131 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3337 : Index := Scalar.indexCast v108
  let c6656 : Index := 6656#32
  ![0, v3337.toNat, 6656]
def k0_off190 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3356 : Index := Scalar.indexCast v108
  let c52 : Index := 52#32
  ![v3356.toNat, 52]
def k0_off191 (k0_t2 : Fin k0_t2_loop.trips) : Fin 3 → Nat :=
  let c0_1152 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3399 : Index := Scalar.indexCast v108
  let c6784 : Index := 6784#32
  ![0, v3399.toNat, 6784]
def k0_off192 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3418 : Index := Scalar.indexCast v108
  let c53 : Index := 53#32
  ![v3418.toNat, 53]
def k0_off193 (k0_t2 : Fin k0_t2_loop.trips) : Fin 3 → Nat :=
  let c0_1173 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3461 : Index := Scalar.indexCast v108
  let c6912 : Index := 6912#32
  ![0, v3461.toNat, 6912]
def k0_off194 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3480 : Index := Scalar.indexCast v108
  let c54 : Index := 54#32
  ![v3480.toNat, 54]
def k0_off195 (k0_t2 : Fin k0_t2_loop.trips) : Fin 3 → Nat :=
  let c0_1194 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3523 : Index := Scalar.indexCast v108
  let c7040 : Index := 7040#32
  ![0, v3523.toNat, 7040]
def k0_off196 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3542 : Index := Scalar.indexCast v108
  let c55 : Index := 55#32
  ![v3542.toNat, 55]
def k0_off197 (k0_t2 : Fin k0_t2_loop.trips) : Fin 3 → Nat :=
  let c0_1215 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3585 : Index := Scalar.indexCast v108
  let c7168 : Index := 7168#32
  ![0, v3585.toNat, 7168]
def k0_off198 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3604 : Index := Scalar.indexCast v108
  let c56 : Index := 56#32
  ![v3604.toNat, 56]
def k0_off199 (k0_t2 : Fin k0_t2_loop.trips) : Fin 3 → Nat :=
  let c0_1236 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3647 : Index := Scalar.indexCast v108
  let c7296 : Index := 7296#32
  ![0, v3647.toNat, 7296]
def k0_off200 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3666 : Index := Scalar.indexCast v108
  let c57 : Index := 57#32
  ![v3666.toNat, 57]
def k0_off201 (k0_t2 : Fin k0_t2_loop.trips) : Fin 3 → Nat :=
  let c0_1257 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3709 : Index := Scalar.indexCast v108
  let c7424 : Index := 7424#32
  ![0, v3709.toNat, 7424]
def k0_off202 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3728 : Index := Scalar.indexCast v108
  let c58 : Index := 58#32
  ![v3728.toNat, 58]
def k0_off203 (k0_t2 : Fin k0_t2_loop.trips) : Fin 3 → Nat :=
  let c0_1278 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3771 : Index := Scalar.indexCast v108
  let c7552 : Index := 7552#32
  ![0, v3771.toNat, 7552]
def k0_off204 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3790 : Index := Scalar.indexCast v108
  let c59 : Index := 59#32
  ![v3790.toNat, 59]
def k0_off205 (k0_t2 : Fin k0_t2_loop.trips) : Fin 3 → Nat :=
  let c0_1299 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3833 : Index := Scalar.indexCast v108
  let c7680 : Index := 7680#32
  ![0, v3833.toNat, 7680]
def k0_off206 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3852 : Index := Scalar.indexCast v108
  let c60 : Index := 60#32
  ![v3852.toNat, 60]
def k0_off207 (k0_t2 : Fin k0_t2_loop.trips) : Fin 3 → Nat :=
  let c0_1320 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3895 : Index := Scalar.indexCast v108
  let c7808 : Index := 7808#32
  ![0, v3895.toNat, 7808]
def k0_off208 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3914 : Index := Scalar.indexCast v108
  let c61 : Index := 61#32
  ![v3914.toNat, 61]
def k0_off209 (k0_t2 : Fin k0_t2_loop.trips) : Fin 3 → Nat :=
  let c0_1341 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3957 : Index := Scalar.indexCast v108
  let c7936 : Index := 7936#32
  ![0, v3957.toNat, 7936]
def k0_off210 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v3976 : Index := Scalar.indexCast v108
  let c62 : Index := 62#32
  ![v3976.toNat, 62]
def k0_off211 (k0_t2 : Fin k0_t2_loop.trips) : Fin 3 → Nat :=
  let c0_1362 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4019 : Index := Scalar.indexCast v108
  let c8064 : Index := 8064#32
  ![0, v4019.toNat, 8064]
def k0_off212 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4038 : Index := Scalar.indexCast v108
  let c63 : Index := 63#32
  ![v4038.toNat, 63]
def k0_off213 (k0_t2 : Fin k0_t2_loop.trips) : Fin 3 → Nat :=
  let c0_1383 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4081 : Index := Scalar.indexCast v108
  let c8192 : Index := 8192#32
  ![0, v4081.toNat, 8192]
def k0_off214 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4100 : Index := Scalar.indexCast v108
  let c64 : Index := 64#32
  ![v4100.toNat, 64]
def k0_off215 (k0_t2 : Fin k0_t2_loop.trips) : Fin 3 → Nat :=
  let c0_1404 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4143 : Index := Scalar.indexCast v108
  let c8320 : Index := 8320#32
  ![0, v4143.toNat, 8320]
def k0_off216 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4162 : Index := Scalar.indexCast v108
  let c65 : Index := 65#32
  ![v4162.toNat, 65]
def k0_off217 (k0_t2 : Fin k0_t2_loop.trips) : Fin 3 → Nat :=
  let c0_1425 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4205 : Index := Scalar.indexCast v108
  let c8448 : Index := 8448#32
  ![0, v4205.toNat, 8448]
def k0_off218 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4224 : Index := Scalar.indexCast v108
  let c66 : Index := 66#32
  ![v4224.toNat, 66]
def k0_off219 (k0_t2 : Fin k0_t2_loop.trips) : Fin 3 → Nat :=
  let c0_1446 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4267 : Index := Scalar.indexCast v108
  let c8576 : Index := 8576#32
  ![0, v4267.toNat, 8576]
def k0_off220 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4286 : Index := Scalar.indexCast v108
  let c67 : Index := 67#32
  ![v4286.toNat, 67]
def k0_off221 (k0_t2 : Fin k0_t2_loop.trips) : Fin 3 → Nat :=
  let c0_1467 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4329 : Index := Scalar.indexCast v108
  let c8704 : Index := 8704#32
  ![0, v4329.toNat, 8704]
def k0_off222 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4348 : Index := Scalar.indexCast v108
  let c68 : Index := 68#32
  ![v4348.toNat, 68]
def k0_off223 (k0_t2 : Fin k0_t2_loop.trips) : Fin 3 → Nat :=
  let c0_1488 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4391 : Index := Scalar.indexCast v108
  let c8832 : Index := 8832#32
  ![0, v4391.toNat, 8832]
def k0_off224 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4410 : Index := Scalar.indexCast v108
  let c69 : Index := 69#32
  ![v4410.toNat, 69]
def k0_off225 (k0_t2 : Fin k0_t2_loop.trips) : Fin 3 → Nat :=
  let c0_1509 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4453 : Index := Scalar.indexCast v108
  let c8960 : Index := 8960#32
  ![0, v4453.toNat, 8960]
def k0_off226 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4472 : Index := Scalar.indexCast v108
  let c70 : Index := 70#32
  ![v4472.toNat, 70]
def k0_off227 (k0_t2 : Fin k0_t2_loop.trips) : Fin 3 → Nat :=
  let c0_1530 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4515 : Index := Scalar.indexCast v108
  let c9088 : Index := 9088#32
  ![0, v4515.toNat, 9088]
def k0_off228 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4534 : Index := Scalar.indexCast v108
  let c71 : Index := 71#32
  ![v4534.toNat, 71]
def k0_off229 (k0_t2 : Fin k0_t2_loop.trips) : Fin 3 → Nat :=
  let c0_1551 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4577 : Index := Scalar.indexCast v108
  let c9216 : Index := 9216#32
  ![0, v4577.toNat, 9216]
def k0_off230 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4596 : Index := Scalar.indexCast v108
  let c72 : Index := 72#32
  ![v4596.toNat, 72]
def k0_off231 (k0_t2 : Fin k0_t2_loop.trips) : Fin 3 → Nat :=
  let c0_1572 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4639 : Index := Scalar.indexCast v108
  let c9344 : Index := 9344#32
  ![0, v4639.toNat, 9344]
def k0_off232 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4658 : Index := Scalar.indexCast v108
  let c73 : Index := 73#32
  ![v4658.toNat, 73]
def k0_off233 (k0_t2 : Fin k0_t2_loop.trips) : Fin 3 → Nat :=
  let c0_1593 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4701 : Index := Scalar.indexCast v108
  let c9472 : Index := 9472#32
  ![0, v4701.toNat, 9472]
def k0_off234 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4720 : Index := Scalar.indexCast v108
  let c74 : Index := 74#32
  ![v4720.toNat, 74]
def k0_off235 (k0_t2 : Fin k0_t2_loop.trips) : Fin 3 → Nat :=
  let c0_1614 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4763 : Index := Scalar.indexCast v108
  let c9600 : Index := 9600#32
  ![0, v4763.toNat, 9600]
def k0_off236 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4782 : Index := Scalar.indexCast v108
  let c75 : Index := 75#32
  ![v4782.toNat, 75]
def k0_off237 (k0_t2 : Fin k0_t2_loop.trips) : Fin 3 → Nat :=
  let c0_1635 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4825 : Index := Scalar.indexCast v108
  let c9728 : Index := 9728#32
  ![0, v4825.toNat, 9728]
def k0_off238 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4844 : Index := Scalar.indexCast v108
  let c76 : Index := 76#32
  ![v4844.toNat, 76]
def k0_off239 (k0_t2 : Fin k0_t2_loop.trips) : Fin 3 → Nat :=
  let c0_1656 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4887 : Index := Scalar.indexCast v108
  let c9856 : Index := 9856#32
  ![0, v4887.toNat, 9856]
def k0_off240 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4906 : Index := Scalar.indexCast v108
  let c77 : Index := 77#32
  ![v4906.toNat, 77]
def k0_off241 (k0_t2 : Fin k0_t2_loop.trips) : Fin 3 → Nat :=
  let c0_1677 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4949 : Index := Scalar.indexCast v108
  let c9984 : Index := 9984#32
  ![0, v4949.toNat, 9984]
def k0_off242 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v4968 : Index := Scalar.indexCast v108
  let c78 : Index := 78#32
  ![v4968.toNat, 78]
def k0_off243 (k0_t2 : Fin k0_t2_loop.trips) : Fin 3 → Nat :=
  let c0_1698 : Index := 0#32
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v5011 : Index := Scalar.indexCast v108
  let c10112 : Index := 10112#32
  ![0, v5011.toNat, 10112]
def k0_off244 (k0_t2 : Fin k0_t2_loop.trips) : Fin 2 → Nat :=
  let c0_i32_18 : BitVec 32 := 0#32
  let c1_i32_20 : BitVec 32 := 1#32
  let arg14 : BitVec 32 := Scf.iv c0_i32_18 c1_i32_20 k0_t2
  let c32_i32 : BitVec 32 := 32#32
  let v107 : BitVec 32 := Scalar.muli arg14 c32_i32
  let v108 : BitVec 32 := v107
  let v5030 : Index := Scalar.indexCast v108
  let c79 : Index := 79#32
  ![v5030.toNat, 79]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x10240 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S640x3x10240 : Shape := ⟨3, ![640, 3, 10240]⟩
abbrev S1 : Shape := ⟨1, ![1]⟩
abbrev S1x640x3 : Shape := ⟨3, ![1, 640, 3]⟩
abbrev S10240 : Shape := ⟨1, ![10240]⟩
abbrev S_ : Shape := ⟨0, ![]⟩
abbrev S640x3 : Shape := ⟨2, ![640, 3]⟩
abbrev S640x3x1 : Shape := ⟨3, ![640, 3, 1]⟩
abbrev S1x1x10240 : Shape := ⟨3, ![1, 1, 10240]⟩
abbrev S640x3x80x128 : Shape := ⟨4, ![640, 3, 80, 128]⟩
abbrev S640x3x80 : Shape := ⟨3, ![640, 3, 80]⟩
abbrev S640x3x80x1 : Shape := ⟨4, ![640, 3, 80, 1]⟩

abbrev nBuf : Space → Nat
  | .hbm => 105
  | .vmem => 2
  | .smem => 0
  | _ => 0

abbrev bufTy : (tb : Table) → Fin (tcTables nBuf tb) → BufTy
  | .hbm, ⟨0, _⟩ => ⟨S640x3x10240, .bf16⟩
  | .hbm, ⟨1, _⟩ => ⟨S1, .f32⟩
  | .hbm, ⟨2, _⟩ => ⟨S1x640x3, .f32⟩
  | .hbm, ⟨3, _⟩ => ⟨S1x640x3, .f32⟩
  | .hbm, ⟨4, _⟩ => ⟨S10240, .f32⟩
  | .hbm, ⟨5, _⟩ => ⟨S10240, .f32⟩
  | .hbm, ⟨6, _⟩ => ⟨S640x3x10240, .f32⟩
  | .hbm, ⟨7, _⟩ => ⟨S_, .f32⟩
  | .hbm, ⟨8, _⟩ => ⟨S640x3, .f32⟩
  | .hbm, ⟨9, _⟩ => ⟨S_, .f32⟩
  | .hbm, ⟨10, _⟩ => ⟨S640x3, .f32⟩
  | .hbm, ⟨11, _⟩ => ⟨S640x3, .f32⟩
  | .hbm, ⟨12, _⟩ => ⟨S640x3x1, .f32⟩
  | .hbm, ⟨13, _⟩ => ⟨S640x3x10240, .f32⟩
  | .hbm, ⟨14, _⟩ => ⟨S640x3x10240, .f32⟩
  | .hbm, ⟨15, _⟩ => ⟨S640x3x10240, .f32⟩
  | .hbm, ⟨16, _⟩ => ⟨S_, .f32⟩
  | .hbm, ⟨17, _⟩ => ⟨S640x3, .f32⟩
  | .hbm, ⟨18, _⟩ => ⟨S_, .f32⟩
  | .hbm, ⟨19, _⟩ => ⟨S640x3, .f32⟩
  | .hbm, ⟨20, _⟩ => ⟨S640x3, .f32⟩
  | .hbm, ⟨21, _⟩ => ⟨S_, .f32⟩
  | .hbm, ⟨22, _⟩ => ⟨S_, .f32⟩
  | .hbm, ⟨23, _⟩ => ⟨S640x3, .f32⟩
  | .hbm, ⟨24, _⟩ => ⟨S_, .f32⟩
  | .hbm, ⟨25, _⟩ => ⟨S640x3, .f32⟩
  | .hbm, ⟨26, _⟩ => ⟨S640x3, .f32⟩
  | .hbm, ⟨27, _⟩ => ⟨S640x3, .f32⟩
  | .hbm, ⟨28, _⟩ => ⟨S640x3, .f32⟩
  | .hbm, ⟨29, _⟩ => ⟨S640x3, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S640x3, .f32⟩
  | .hbm, ⟨34, _⟩ => ⟨S640x3, .f32⟩
  | .hbm, ⟨35, _⟩ => ⟨S640x3, .f32⟩
  | .hbm, ⟨36, _⟩ => ⟨S640x3, .f32⟩
  | .hbm, ⟨37, _⟩ => ⟨S640x3, .f32⟩
  | .hbm, ⟨38, _⟩ => ⟨S_, .f32⟩
  | .hbm, ⟨39, _⟩ => ⟨S640x3, .f32⟩
  | .hbm, ⟨40, _⟩ => ⟨S640x3, .f32⟩
  | .hbm, ⟨41, _⟩ => ⟨S640x3, .f32⟩
  | .hbm, ⟨42, _⟩ => ⟨S640x3x1, .f32⟩
  | .hbm, ⟨43, _⟩ => ⟨S640x3x10240, .f32⟩
  | .hbm, ⟨44, _⟩ => ⟨S640x3x10240, .f32⟩
  | .hbm, ⟨45, _⟩ => ⟨S640x3x1, .f32⟩
  | .hbm, ⟨46, _⟩ => ⟨S640x3x10240, .f32⟩
  | .hbm, ⟨47, _⟩ => ⟨S640x3x10240, .f32⟩
  | .hbm, ⟨48, _⟩ => ⟨S1x1x10240, .f32⟩
  | .hbm, ⟨49, _⟩ => ⟨S640x3x10240, .f32⟩
  | .hbm, ⟨50, _⟩ => ⟨S640x3x10240, .f32⟩
  | .hbm, ⟨51, _⟩ => ⟨S1x1x10240, .f32⟩
  | .hbm, ⟨52, _⟩ => ⟨S640x3x10240, .f32⟩
  | .hbm, ⟨53, _⟩ => ⟨S640x3x10240, .f32⟩
  | .hbm, ⟨54, _⟩ => ⟨S640x3x80x128, .f32⟩
  | .hbm, ⟨55, _⟩ => ⟨S640x3x80x128, .f32⟩
  | .hbm, ⟨56, _⟩ => ⟨S_, .f32⟩
  | .hbm, ⟨57, _⟩ => ⟨S640x3x80, .f32⟩
  | .hbm, ⟨58, _⟩ => ⟨S_, .f32⟩
  | .hbm, ⟨59, _⟩ => ⟨S640x3x80, .f32⟩
  | .hbm, ⟨60, _⟩ => ⟨S640x3x80, .f32⟩
  | .hbm, ⟨61, _⟩ => ⟨S640x3x80, .f32⟩
  | .hbm, ⟨62, _⟩ => ⟨S_, .f32⟩
  | .hbm, ⟨63, _⟩ => ⟨S_, .f32⟩
  | .hbm, ⟨64, _⟩ => ⟨S640x3x80, .f32⟩
  | .hbm, ⟨65, _⟩ => ⟨S640x3x80, .f32⟩
  | .hbm, ⟨66, _⟩ => ⟨S640x3x80, .f32⟩
  | .hbm, ⟨67, _⟩ => ⟨S_, .f32⟩
  | .hbm, ⟨68, _⟩ => ⟨S640x3x80, .f32⟩
  | .hbm, ⟨69, _⟩ => ⟨S640x3x80, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S640x3x80, .f32⟩
  | .hbm, ⟨74, _⟩ => ⟨S640x3x80, .f32⟩
  | .hbm, ⟨75, _⟩ => ⟨S_, .f32⟩
  | .hbm, ⟨76, _⟩ => ⟨S640x3x80, .f32⟩
  | .hbm, ⟨77, _⟩ => ⟨S640x3x80, .f32⟩
  | .hbm, ⟨78, _⟩ => ⟨S_, .f32⟩
  | .hbm, ⟨79, _⟩ => ⟨S640x3x80, .f32⟩
  | .hbm, ⟨80, _⟩ => ⟨S640x3x80, .i1⟩
  | .hbm, ⟨81, _⟩ => ⟨S_, .f32⟩
  | .hbm, ⟨82, _⟩ => ⟨S_, .f32⟩
  | .hbm, ⟨83, _⟩ => ⟨S640x3x80, .f32⟩
  | .hbm, ⟨84, _⟩ => ⟨S640x3x80, .f32⟩
  | .hbm, ⟨85, _⟩ => ⟨S_, .f32⟩
  | .hbm, ⟨86, _⟩ => ⟨S640x3x80, .f32⟩
  | .hbm, ⟨87, _⟩ => ⟨S640x3x80, .f32⟩
  | .hbm, ⟨88, _⟩ => ⟨S640x3x80, .f32⟩
  | .hbm, ⟨89, _⟩ => ⟨S_, .f32⟩
  | .hbm, ⟨90, _⟩ => ⟨S640x3x80, .f32⟩
  | .hbm, ⟨91, _⟩ => ⟨S640x3x80, .f32⟩
  | .hbm, ⟨92, _⟩ => ⟨S640x3x80x1, .f32⟩
  | .hbm, ⟨93, _⟩ => ⟨S640x3x80x128, .f32⟩
  | .hbm, ⟨94, _⟩ => ⟨S640x3x80x128, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S640x3x80x128, .f32⟩
  | .hbm, ⟨99, _⟩ => ⟨S640x3x80x128, .f32⟩
  | .hbm, ⟨100, _⟩ => ⟨S_, .f32⟩
  | .hbm, ⟨101, _⟩ => ⟨S640x3x80x128, .f32⟩
  | .hbm, ⟨102, _⟩ => ⟨S640x3x80x128, .f32⟩
  | .hbm, ⟨103, _⟩ => ⟨S640x3x10240, .f32⟩
  | .hbm, ⟨104, _⟩ => ⟨S640x3x10240, .fp8e4m3⟩
  | .local _ .vmem, ⟨0, _⟩ => ⟨S640x3x10240, .f32⟩
  | .local _ .vmem, ⟨1, _⟩ => ⟨S640x3x10240, .fp8e4m3⟩
  | _, _ => ⟨S640x3x10240, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_cst_10 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_cst_16 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S640x3x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x3x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Hand.KernelFrame.lean ====
/-
  The frame of the LayerNorm and fp8 block quantisation kernel, as the program `Kernel`: every execution
  terminates, nothing faults, the six argument arrays end unchanged and every semaphore counter ends at zero.

  What the four output windows and the two scratch buffers hold is not stated here: the body is run on whatever they
  hold, and the pipeline library's run with forgotten outputs gives the frame.
-/
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole buffers, the six inputs at contents `x0` … `x5` and the four outputs and two scratch
    buffers at anything, runs to the end and hands every buffer back, the inputs as they were. -/
theorem sound_kernel (c : Dev nD) (E : Set ℕ) (i : grid0.Coords)
      (arg2 : Memref sig .tc .smem S1 .f32) (harg2 : arg2.IsWhole)
      (arg3 : Memref sig .tc .vmem S1x128x10240 .bf16) (harg3 : arg3.IsWhole)
      (arg4 : Memref sig .tc .vmem S3x1x640 .f32) (harg4 : arg4.IsWhole)
      (arg5 : Memref sig .tc .vmem S3x1x640 .f32) (harg5 : arg5.IsWhole)
      (arg6 : Memref sig .tc .vmem S1x10240 .f32) (harg6 : arg6.IsWhole)
      (arg7 : Memref sig .tc .vmem S1x10240 .f32) (harg7 : arg7.IsWhole)
      (arg8 : Memref sig .tc .vmem S1x128x10240 .fp8e4m3) (harg8 : arg8.IsWhole)
      (arg9 : Memref sig .tc .vmem S1x80x128 .f32) (harg9 : arg9.IsWhole)
      (arg10 : Memref sig .tc .vmem S3x640 .f32) (harg10 : arg10.IsWhole)
      (arg11 : Memref sig .tc .vmem S3x640 .f32) (harg11 : arg11.IsWhole)
      (arg12 : Memref sig .tc .vmem S128x128 .f32) (harg12 : arg12.IsWhole)
      (arg13 : Memref sig .tc .vmem S128x128 .f32) (harg13 : arg13.IsWhole)
      (x0 : Vec F S1 .f32) (x1 : Vec F S1x128x10240 .bf16) (x2 : Vec F S3x1x640 .f32) (x3 : Vec F S3x1x640 .f32) (x4 : Vec F S1x10240 .f32) (x5 : Vec F S1x10240 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) E (cc0_ln_fp8 i arg2 harg2 arg3 harg3 arg4 harg4 arg5 harg5 arg6 harg6 arg7 harg7 arg8 harg8 arg9 harg9 arg10 harg10 arg11 harg11 arg12 harg12 arg13 harg13) K := by
  simp only [cc0_ln_fp8_eq_skeleton]; unfold cc0_ln_fp8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data and the body obligation -/

variable (m : (ℓ : Loc nD τ sig) → Buf (Elt F) ℓ) (ρ : Dev nD → PrngReg)

/-- The two scratch buffers at some contents, as memrefs own them. -/
theorem scratch_eq (c : Dev nD) :
    (Pipeline.scopedRest spec0 c : sProp 𝕄)
      = iprop((∃ d, owns (c : Thread nD τ) (Memref.whole cc0_scratch0) fullShare d)
          ∗ (∃ d, owns (c : Thread nD τ) (Memref.whole cc0_scratch1) fullShare d)) := by
  rw [scopedRest0_eq]
  simp only [owns_whole]

/-- The four output windows: nothing is said of what the body leaves in them. -/
def forgets0 : Fin 10 → Bool := fun w => decide (6 ≤ w.val)

/-- The proof data on core `c`: the arrays as the region finds them, the input windows at their blocks, the output
    windows unnamed, the scratch buffers at anything, full shares, nothing owed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The arrays before the run are the operands of the call. -/
theorem fA_eq (c : Dev nD) (w : Fin cfg0.W) : (fdats m 0 c).A w = V m c (Pipeline.arrRef spec0 w) := by
  dsimp only [fdats]

/-- After a step the block of the count is what it was. -/
theorem fafter0_0 (c : Dev nD) (t : Fin cfg0.N) : (fdats m 0 c).after 0 t = iblk m c 0 t := by dsimp only [fdats]
/-- After a step the block of `x` is what it was. -/
theorem fafter0_1 (c : Dev nD) (t : Fin cfg0.N) : (fdats m 0 c).after 1 t = iblk m c 1 t := by dsimp only [fdats]
/-- After a step the block of the means of the peer is what it was. -/
theorem fafter0_2 (c : Dev nD) (t : Fin cfg0.N) : (fdats m 0 c).after 2 t = iblk m c 2 t := by dsimp only [fdats]
/-- After a step the block of the sums of squares of the peer is what it was. -/
theorem fafter0_3 (c : Dev nD) (t : Fin cfg0.N) : (fdats m 0 c).after 3 t = iblk m c 3 t := by dsimp only [fdats]
/-- After a step the block of `gamma` is what it was. -/
theorem fafter0_4 (c : Dev nD) (t : Fin cfg0.N) : (fdats m 0 c).after 4 t = iblk m c 4 t := by dsimp only [fdats]
/-- After a step the block of `beta` is what it was. -/
theorem fafter0_5 (c : Dev nD) (t : Fin cfg0.N) : (fdats m 0 c).after 5 t = iblk m c 5 t := by dsimp only [fdats]
/-- Before a step the block of the count is the one taken from the operand. -/
theorem fbefore0_0 (c : Dev nD) (t : Fin cfg0.N) (d) : (fdats m 0 c).before 0 t d = iblk m c 0 t :=
  before0_0_of m (fdats m 0 c) (fA_eq m c 0) (fafter0_0 m c) t d
/-- Before a step the block of `x` is the one taken from the operand. -/
theorem fbefore0_1 (c : Dev nD) (t : Fin cfg0.N) (d) : (fdats m 0 c).before 1 t d = iblk m c 1 t :=
  before0_1_of m (fdats m 0 c) (fA_eq m c 1) (fafter0_1 m c) t d
/-- Before a step the block of the means of the peer is the one taken from the operand. -/
theorem fbefore0_2 (c : Dev nD) (t : Fin cfg0.N) (d) : (fdats m 0 c).before 2 t d = iblk m c 2 t :=
  before0_2_of m (fdats m 0 c) (fA_eq m c 2) (fafter0_2 m c) t d
/-- Before a step the block of the sums of squares of the peer is the one taken from the operand. -/
theorem fbefore0_3 (c : Dev nD) (t : Fin cfg0.N) (d) : (fdats m 0 c).before 3 t d = iblk m c 3 t :=
  before0_3_of m (fdats m 0 c) (fA_eq m c 3) (fafter0_3 m c) t d
/-- Before a step the block of `gamma` is the one taken from the operand. -/
theorem fbefore0_4 (c : Dev nD) (t : Fin cfg0.N) (d) : (fdats m 0 c).before 4 t d = iblk m c 4 t :=
  before0_4_of m (fdats m 0 c) (fA_eq m c 4) (fafter0_4 m c) t d
/-- Before a step the block of `beta` is the one taken from the operand. -/
theorem fbefore0_5 (c : Dev nD) (t : Fin cfg0.N) (d) : (fdats m 0 c).before 5 t d = iblk m c 5 t :=
  before0_5_of m (fdats m 0 c) (fA_eq m c 5) (fafter0_5 m c) t d

/-- What the body is called with at point `t`. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- What the body hands back at point `t`. -/
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- The body of a step runs from any blocks of the results and leaves the blocks of the operands as they were. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0_0, fbefore0_1, fbefore0_2, fbefore0_3, fbefore0_4, fbefore0_5]
  rw [show (fdats m 0 c).Φ t.succ = (fdats m 0 c).Φ t.castSucc from rfl,
    show (fdats m 0 c).owesAt () t.succ = (fdats m 0 c).owesAt () t.castSucc from rfl,
    fafter0_0, fafter0_1, fafter0_2, fafter0_3, fafter0_4, fafter0_5,
    show (fdats m 0 c).Φ t.castSucc = Pipeline.ΦA spec0 c from rfl]
  unfold Pipeline.ΦA
  rw [scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The condition on the body that the rule for the grid asks for. -/
theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

/-! ## The run and the frame -/

set_option backward.isDefEq.respectTransparency.types false in
/-- The four buffers that the host operations after the call write: the transposed results. -/
abbrev tailT : Finset (Ref sig .tc) := {main_v6, main_v7, main_v8, main_v9}

/-- The host operations after the call write no other buffer. -/
theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl | rfl <;>
    (simp only [StableHlo.unary_writes, Finset.mem_singleton] at hb; cases Proc.devRef_injective _ hb; decide)

/-- Every weakly fair execution terminates; every final state has every input window's array and every other
    unscoped buffer but the four of `tailT` as the region found it, and every semaphore counter at zero. -/
theorem frun_main :
    θ_run defs (onTc (τ := τ) (main (F := F))) (s₀ m ρ)
      (fun r => Pipeline.RDat.FramePostR (cfgs 0) (fun c => (fdats m 0 c).toRForget forgets0) tailT (V m) r ∧ r.2.sem = fun _ => 0) :=
  Pipeline.θ_run_frame_around_T_forget (Q' := _) cfgs (fdats m) (0 : Fin 1) launch0 defs₀ Variants.none forgets0 tailT m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl) (hQ' := fun _ h => h)

/-- The frame claim at any value family: from any memory with the semaphores at zero, every weakly fair execution
    terminates without a fault, the six argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hs⟩ => ⟨fun c => ⟨
      ((h c).2 main_arg0 (Finset.mem_sdiff.2 ⟨Pipeline.mem_restRefs_of main_arg0 (by decide) (by decide), by decide⟩)).trans (V_main_arg0 m c),
      ((Pipeline.RDat.FramePostR.arr_in h c (w := 0) rfl).trans (fA_eq m c 0)).trans (V_main_arg1 m c),
      ((h c).2 main_arg2 (Finset.mem_sdiff.2 ⟨Pipeline.mem_restRefs_of main_arg2 (by decide) (by decide), by decide⟩)).trans (V_main_arg2 m c),
      ((h c).2 main_arg3 (Finset.mem_sdiff.2 ⟨Pipeline.mem_restRefs_of main_arg3 (by decide) (by decide), by decide⟩)).trans (V_main_arg3 m c),
      ((h c).2 main_arg4 (Finset.mem_sdiff.2 ⟨Pipeline.mem_restRefs_of main_arg4 (by decide) (by decide), by decide⟩)).trans (V_main_arg4 m c),
      ((h c).2 main_arg5 (Finset.mem_sdiff.2 ⟨Pipeline.mem_restRefs_of main_arg5 (by decide) (by decide), by decide⟩)).trans (V_main_arg5 m c)⟩, hs⟩) (frun_main m ρ)

end Cert.Kernel.Hand

end
-- ==== Proof.Hand.IdealFrame.lean ====
/-
  The frame of the LayerNorm and fp8 block quantisation kernel, as the program `KernelIdeal`: every execution
  terminates, nothing faults, the six argument arrays end unchanged and every semaphore counter ends at zero.

  What the four output windows and the two scratch buffers hold is not stated here: the body is run on whatever they
  hold, and the pipeline library's run with forgotten outputs gives the frame.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole buffers, the six inputs at contents `x0` … `x5` and the four outputs and two scratch
    buffers at anything, runs to the end and hands every buffer back, the inputs as they were. -/
theorem sound_kernel (c : Dev nD) (E : Set ℕ) (i : grid0.Coords)
      (arg2 : Memref sig .tc .smem S1 .f32) (harg2 : arg2.IsWhole)
      (arg3 : Memref sig .tc .vmem S1x128x10240 .bf16) (harg3 : arg3.IsWhole)
      (arg4 : Memref sig .tc .vmem S3x1x640 .f32) (harg4 : arg4.IsWhole)
      (arg5 : Memref sig .tc .vmem S3x1x640 .f32) (harg5 : arg5.IsWhole)
      (arg6 : Memref sig .tc .vmem S1x10240 .f32) (harg6 : arg6.IsWhole)
      (arg7 : Memref sig .tc .vmem S1x10240 .f32) (harg7 : arg7.IsWhole)
      (arg8 : Memref sig .tc .vmem S1x128x10240 .fp8e4m3) (harg8 : arg8.IsWhole)
      (arg9 : Memref sig .tc .vmem S1x80x128 .f32) (harg9 : arg9.IsWhole)
      (arg10 : Memref sig .tc .vmem S3x640 .f32) (harg10 : arg10.IsWhole)
      (arg11 : Memref sig .tc .vmem S3x640 .f32) (harg11 : arg11.IsWhole)
      (arg12 : Memref sig .tc .vmem S128x128 .f32) (harg12 : arg12.IsWhole)
      (arg13 : Memref sig .tc .vmem S128x128 .f32) (harg13 : arg13.IsWhole)
      (x0 : Vec F S1 .f32) (x1 : Vec F S1x128x10240 .bf16) (x2 : Vec F S3x1x640 .f32) (x3 : Vec F S3x1x640 .f32) (x4 : Vec F S1x10240 .f32) (x5 : Vec F S1x10240 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) E (cc0_ln_fp8 i arg2 harg2 arg3 harg3 arg4 harg4 arg5 harg5 arg6 harg6 arg7 harg7 arg8 harg8 arg9 harg9 arg10 harg10 arg11 harg11 arg12 harg12 arg13 harg13) K := by
  simp only [cc0_ln_fp8_eq_skeleton]; unfold cc0_ln_fp8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data and the body obligation -/

variable (m : (ℓ : Loc nD τ sig) → Buf (Elt F) ℓ) (ρ : Dev nD → PrngReg)

/-- The two scratch buffers at some contents, as memrefs own them. -/
theorem scratch_eq (c : Dev nD) :
    (Pipeline.scopedRest spec0 c : sProp 𝕄)
      = iprop((∃ d, owns (c : Thread nD τ) (Memref.whole cc0_scratch0) fullShare d)
          ∗ (∃ d, owns (c : Thread nD τ) (Memref.whole cc0_scratch1) fullShare d)) := by
  rw [scopedRest0_eq]
  simp only [owns_whole]

/-- The four output windows: nothing is said of what the body leaves in them. -/
def forgets0 : Fin 10 → Bool := fun w => decide (6 ≤ w.val)

/-- The proof data on core `c`: the arrays as the region finds them, the input windows at their blocks, the output
    windows unnamed, the scratch buffers at anything, full shares, nothing owed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The arrays before the run are the operands of the call. -/
theorem fA_eq (c : Dev nD) (w : Fin cfg0.W) : (fdats m 0 c).A w = V m c (Pipeline.arrRef spec0 w) := by
  dsimp only [fdats]

/-- After a step the block of the count is what it was. -/
theorem fafter0_0 (c : Dev nD) (t : Fin cfg0.N) : (fdats m 0 c).after 0 t = iblk m c 0 t := by dsimp only [fdats]
/-- After a step the block of `x` is what it was. -/
theorem fafter0_1 (c : Dev nD) (t : Fin cfg0.N) : (fdats m 0 c).after 1 t = iblk m c 1 t := by dsimp only [fdats]
/-- After a step the block of the means of the peer is what it was. -/
theorem fafter0_2 (c : Dev nD) (t : Fin cfg0.N) : (fdats m 0 c).after 2 t = iblk m c 2 t := by dsimp only [fdats]
/-- After a step the block of the sums of squares of the peer is what it was. -/
theorem fafter0_3 (c : Dev nD) (t : Fin cfg0.N) : (fdats m 0 c).after 3 t = iblk m c 3 t := by dsimp only [fdats]
/-- After a step the block of `gamma` is what it was. -/
theorem fafter0_4 (c : Dev nD) (t : Fin cfg0.N) : (fdats m 0 c).after 4 t = iblk m c 4 t := by dsimp only [fdats]
/-- After a step the block of `beta` is what it was. -/
theorem fafter0_5 (c : Dev nD) (t : Fin cfg0.N) : (fdats m 0 c).after 5 t = iblk m c 5 t := by dsimp only [fdats]
/-- Before a step the block of the count is the one taken from the operand. -/
theorem fbefore0_0 (c : Dev nD) (t : Fin cfg0.N) (d) : (fdats m 0 c).before 0 t d = iblk m c 0 t :=
  before0_0_of m (fdats m 0 c) (fA_eq m c 0) (fafter0_0 m c) t d
/-- Before a step the block of `x` is the one taken from the operand. -/
theorem fbefore0_1 (c : Dev nD) (t : Fin cfg0.N) (d) : (fdats m 0 c).before 1 t d = iblk m c 1 t :=
  before0_1_of m (fdats m 0 c) (fA_eq m c 1) (fafter0_1 m c) t d
/-- Before a step the block of the means of the peer is the one taken from the operand. -/
theorem fbefore0_2 (c : Dev nD) (t : Fin cfg0.N) (d) : (fdats m 0 c).before 2 t d = iblk m c 2 t :=
  before0_2_of m (fdats m 0 c) (fA_eq m c 2) (fafter0_2 m c) t d
/-- Before a step the block of the sums of squares of the peer is the one taken from the operand. -/
theorem fbefore0_3 (c : Dev nD) (t : Fin cfg0.N) (d) : (fdats m 0 c).before 3 t d = iblk m c 3 t :=
  before0_3_of m (fdats m 0 c) (fA_eq m c 3) (fafter0_3 m c) t d
/-- Before a step the block of `gamma` is the one taken from the operand. -/
theorem fbefore0_4 (c : Dev nD) (t : Fin cfg0.N) (d) : (fdats m 0 c).before 4 t d = iblk m c 4 t :=
  before0_4_of m (fdats m 0 c) (fA_eq m c 4) (fafter0_4 m c) t d
/-- Before a step the block of `beta` is the one taken from the operand. -/
theorem fbefore0_5 (c : Dev nD) (t : Fin cfg0.N) (d) : (fdats m 0 c).before 5 t d = iblk m c 5 t :=
  before0_5_of m (fdats m 0 c) (fA_eq m c 5) (fafter0_5 m c) t d

/-- What the body is called with at point `t`. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- What the body hands back at point `t`. -/
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- The body of a step runs from any blocks of the results and leaves the blocks of the operands as they were. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0_0, fbefore0_1, fbefore0_2, fbefore0_3, fbefore0_4, fbefore0_5]
  rw [show (fdats m 0 c).Φ t.succ = (fdats m 0 c).Φ t.castSucc from rfl,
    show (fdats m 0 c).owesAt () t.succ = (fdats m 0 c).owesAt () t.castSucc from rfl,
    fafter0_0, fafter0_1, fafter0_2, fafter0_3, fafter0_4, fafter0_5,
    show (fdats m 0 c).Φ t.castSucc = Pipeline.ΦA spec0 c from rfl]
  unfold Pipeline.ΦA
  rw [scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The condition on the body that the rule for the grid asks for. -/
theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

/-! ## The run and the frame -/

set_option backward.isDefEq.respectTransparency.types false in
/-- The four buffers that the host operations after the call write: the transposed results. -/
abbrev tailT : Finset (Ref sig .tc) := {main_v6, main_v7, main_v8, main_v9}

/-- The host operations after the call write no other buffer. -/
theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl | rfl <;>
    (simp only [StableHlo.unary_writes, Finset.mem_singleton] at hb; cases Proc.devRef_injective _ hb; decide)

/-- Every weakly fair execution terminates; every final state has every input window's array and every other
    unscoped buffer but the four of `tailT` as the region found it, and every semaphore counter at zero. -/
theorem frun_main :
    θ_run defs (onTc (τ := τ) (main (F := F))) (s₀ m ρ)
      (fun r => Pipeline.RDat.FramePostR (cfgs 0) (fun c => (fdats m 0 c).toRForget forgets0) tailT (V m) r ∧ r.2.sem = fun _ => 0) :=
  Pipeline.θ_run_frame_around_T_forget (Q' := _) cfgs (fdats m) (0 : Fin 1) launch0 defs₀ Variants.none forgets0 tailT m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl) (hQ' := fun _ h => h)

/-- The frame claim at any value family: from any memory with the semaphores at zero, every weakly fair execution
    terminates without a fault, the six argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hs⟩ => ⟨fun c => ⟨
      ((h c).2 main_arg0 (Finset.mem_sdiff.2 ⟨Pipeline.mem_restRefs_of main_arg0 (by decide) (by decide), by decide⟩)).trans (V_main_arg0 m c),
      ((Pipeline.RDat.FramePostR.arr_in h c (w := 0) rfl).trans (fA_eq m c 0)).trans (V_main_arg1 m c),
      ((h c).2 main_arg2 (Finset.mem_sdiff.2 ⟨Pipeline.mem_restRefs_of main_arg2 (by decide) (by decide), by decide⟩)).trans (V_main_arg2 m c),
      ((h c).2 main_arg3 (Finset.mem_sdiff.2 ⟨Pipeline.mem_restRefs_of main_arg3 (by decide) (by decide), by decide⟩)).trans (V_main_arg3 m c),
      ((h c).2 main_arg4 (Finset.mem_sdiff.2 ⟨Pipeline.mem_restRefs_of main_arg4 (by decide) (by decide), by decide⟩)).trans (V_main_arg4 m c),
      ((h c).2 main_arg5 (Finset.mem_sdiff.2 ⟨Pipeline.mem_restRefs_of main_arg5 (by decide) (by decide), by decide⟩)).trans (V_main_arg5 m c)⟩, hs⟩) (frun_main m ρ)

end Cert.KernelIdeal.Hand

end
-- ==== Proof.Hand.Spec.lean ====
/-
  What one row of the kernel is, as a function of extended reals: the statistics of the row merged with the peer's,
  the normalised row, the largest magnitude of a block of 128 columns, its power-of-two exponent, scale and codes.
-/
module

public import Idealize.ShloMosaic.PureOps.Ideal

@[expose] public section

noncomputable section

namespace Cert.Spec

open Idealize.ShloMosaic

/-- The extended real of a float32 constant's pattern. -/
abbrev lit (w : BitVec 32) : EReal := Ideal.ofBits .f32 w

/-- What one row is computed from: its elements, the peer's count, mean and sum of squares, the scale and the shift. -/
structure Row where
  x : Fin 10240 → EReal
  cnt : EReal
  pm : EReal
  pv : EReal
  g : Fin 10240 → EReal
  b : Fin 10240 → EReal

namespace Row

variable (r : Row)

/-- The row's own mean. -/
def meanLoc : EReal := Ideal.div (∑ k, r.x k) (lit 1176502272#32)
/-- The row's own sum of squared deviations. -/
def m2Loc : EReal := ∑ k, (r.x k - r.meanLoc) * (r.x k - r.meanLoc)
/-- The merged number of elements. -/
def n : EReal := lit 1176502272#32 + r.cnt
/-- The peer's mean less the row's own. -/
def delta : EReal := r.pm - r.meanLoc
/-- The merged mean. -/
def mean : EReal := r.meanLoc + r.delta * Ideal.div r.cnt r.n
/-- The merged sum of squared deviations. -/
def m2 : EReal := r.m2Loc + r.pv + r.delta * r.delta * Ideal.div (lit 1176502272#32 * r.cnt) r.n
/-- The merged reciprocal standard deviation. -/
def rstd : EReal := Ideal.rsqrt (Ideal.div r.m2 r.n + lit 925353388#32)
/-- The normalised, scaled and shifted row. -/
def y (k : Fin 10240) : EReal := (r.x k - r.mean) * r.rstd * r.g k + r.b k
/-- Column `l` of block `j`. -/
def col (j : Fin 80) (l : Fin 128) : Fin 10240 := ⟨j.val * 128 + l.val, by omega⟩
/-- The largest magnitude of block `j`. -/
def amax (j : Fin 80) : EReal := Finset.univ.fold max (lit 4286578688#32) fun l => max (r.y (col j l)) (-r.y (col j l))

end Row

/-- The exponent of a block whose largest magnitude is `a`: of `a / 448`, as `frexp` has it, in the range of a float32; 0 for 0. -/
def expo (a : EReal) : EReal :=
  if a = lit 0#32 then lit 0#32
  else min (lit 1123024896#32) (max (lit 3271294976#32)
    (Ideal.liftRound Int.floor (Ideal.div (Ideal.log (a * lit 991054117#32)) (Ideal.log (lit 1073741824#32))) + lit 1065353216#32))

namespace Row

variable (r : Row)

/-- The scale of block `j`. -/
def scale (j : Fin 80) : EReal := Ideal.pow (lit 1073741824#32) (expo (r.amax j))
/-- The reciprocal scale of block `j`. -/
def inv (j : Fin 80) : EReal := Ideal.pow (lit 1073741824#32) (-expo (r.amax j))
/-- The code of column `l` of block `j`. -/
def code (j : Fin 80) (l : Fin 128) : EReal :=
  min (lit 1138753536#32) (max (lit 3286237184#32) (r.y (col j l) * r.inv j))

end Row

end Cert.Spec

end
-- ==== Proof.Hand.RefValue.lean ====
module
public import proofs.«01_k».proof.Proof.Hand.Spec
public import proofs.«01_k».proof.Proof.Gen.ReferenceIdeal.Value
public import Idealize.ShloMosaic.Lib.Pipeline.ValueKit
public import Idealize.ShloMosaic.Lib.Pointwise
public import Idealize.ShloMosaic.Lib.StableHlo.ReadAt
public import Idealize.ShloMosaic.Lib.IdealHost
public import Idealize.ShloMosaic.Lib.ValueIdx

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `s` of batch element `b`, and the peer's statistics of it, as the reference is given them. -/
def row (s : Fin 640) (b : Fin 3) : Spec.Row where
  x k := m (c, Proc.tc.devRef main_arg0) (ix3 s b k)
  cnt := m (c, Proc.tc.devRef main_arg1) (ix1 0)
  pm := m (c, Proc.tc.devRef main_arg2) (ix3 0 s b)
  pv := m (c, Proc.tc.devRef main_arg3) (ix3 0 s b)
  g k := m (c, Proc.tc.devRef main_arg4) (ix1 k)
  b k := m (c, Proc.tc.devRef main_arg5) (ix1 k)

/-- The reference's merged mean is the row's. -/
theorem mean_at :
    ∀ (s : Fin 640) (b : Fin 3), (V m c main_v17 (ix2 s b) : EReal) = (row m c s b).mean := by
  intro s b
  unfold V
  simp only [List.flatten_cons, List.flatten_nil, List.append_nil, hostOps0, hostOps0_1, hostOps0_2, hostOps0_3, hostOps0_4,
    hostOps0_5, hostOps0_6, List.cons_append, List.nil_append]
  after_reads_at
  rfl

/-- The reference's merged reciprocal standard deviation is the row's. -/
theorem rstd_at :
    ∀ (s : Fin 640) (b : Fin 3), (V m c main_v29 (ix2 s b) : EReal) = (row m c s b).rstd := by
  intro s b
  unfold V
  simp only [List.flatten_cons, List.flatten_nil, List.append_nil, hostOps0, hostOps0_1, hostOps0_2, hostOps0_3, hostOps0_4,
    hostOps0_5, hostOps0_6, List.cons_append, List.nil_append]
  after_reads_at
  rfl

/-- The host operations up to the normalised rows in blocks. -/
abbrev opsA : List (HloOp τ sig (Elt Ideal)) := hostOps0.take 49
/-- The host operations after them, up to the region. -/
abbrev opsB : List (HloOp τ sig (Elt Ideal)) :=
  hostOps0.drop 49 ++ List.flatten [hostOps0_1, hostOps0_2, hostOps0_3, hostOps0_4, hostOps0_5, hostOps0_6]

/-- The contents after a list of operations and then another are those after the second, from those after the first. -/
theorem after_append (l l' : List (HloOp τ sig (Elt Ideal))) (V₀ : Valuation τ sig (Elt Ideal)) :
    StableHlo.after (l ++ l') V₀ = StableHlo.after l' (StableHlo.after l V₀) := by
  induction l generalizing V₀ with
  | nil => rfl
  | cons a l ih => exact ih _

/-- The contents after a list of lists of operations, the first cut in two. -/
theorem after_split (n : ℕ) (l : List (HloOp τ sig (Elt Ideal))) (ls : List (List (HloOp τ sig (Elt Ideal))))
    (V₀ : Valuation τ sig (Elt Ideal)) : StableHlo.after (List.flatten (l :: ls)) V₀
      = StableHlo.after (l.drop n ++ List.flatten ls) (StableHlo.after (l.take n) V₀) := by
  rw [← after_append, ← List.append_assoc, List.take_append_drop, List.flatten_cons]

/-- What the region finds, in the two stretches. -/
theorem V_eq (r : Ref sig .tc) : V m c r = StableHlo.after opsB (StableHlo.after opsA fun b => m (c, b)) r := by
  have h := after_split 49 hostOps0 [hostOps0_1, hostOps0_2, hostOps0_3, hostOps0_4, hostOps0_5, hostOps0_6] (fun b => m (c, b))
  exact congrFun h (Proc.devRef .tc r)

/-- The reference's normalised row, in blocks. -/
theorem y_at : ∀ (s : Fin 640) (b : Fin 3) (j : Fin 80) (l : Fin 128),
    (StableHlo.after opsA (fun b => m (c, b)) main_v42 (ix4 s b j l) : EReal) = (row m c s b).y (Spec.Row.col j l) := by
  intro s b j l
  simp only [opsA, List.take]
  after_reads_at
  rfl

/-! The host's operations at an index. -/

/-- The floor, at one index. -/
theorem floor_apply {s : Shape} (x : FVec Ideal s .f32) (i : s.Idx) : (Host.floor x i : EReal) = Ideal.liftRound Int.floor (x i) := rfl
/-- The logarithm, at one index. -/
theorem log_apply {s : Shape} (x : FVec Ideal s .f32) (i : s.Idx) : (Host.log x i : EReal) = Ideal.log (x i) := rfl
/-- The power, at one index. -/
theorem powf_apply {s : Shape} (x y : FVec Ideal s .f32) (i : s.Idx) : (Host.powf x y i : EReal) = Ideal.pow (x i) (y i) := rfl
/-- The negation, at one index. -/
theorem neg_apply {s : Shape} (x : FVec Ideal s .f32) (i : s.Idx) : (Host.negf x i : EReal) = -(x i : EReal) := rfl

/-- A selection on an equality of extended reals. -/
theorem select_oeq (x y a b : EReal) :
    Scalar.select (Ideal.cmp .oeq x y) a b = if x = y then a else b := by
  by_cases h : x = y <;> simp [Scalar.select, Ideal.cmp, h]

/-- The exponents of the blocks, of their largest magnitudes. -/
def eOf (A : FVec Ideal S640x3x80 .f32) : FVec Ideal S640x3x80 .f32 :=
   (select
          (cmpf CmpFPredicate.oeq A (broadcastInDim S640x3x80 ![] bcast_S_S640x3x80 (constant S_ FTy.f32 0#32)))
          (broadcastInDim S640x3x80 ![] bcast_S_S640x3x80 (id (constant S_ FTy.f32 0#32)))
          (minimumf (broadcastInDim S640x3x80 ![] bcast_S_S640x3x80 (id (constant S_ FTy.f32 1123024896#32)))
            (maximumf (broadcastInDim S640x3x80 ![] bcast_S_S640x3x80 (id (constant S_ FTy.f32 3271294976#32)))
              (addf
                (Host.floor
                  (Host.divf
                    (Host.log
                      (mulf A
                        (broadcastInDim S640x3x80 ![] bcast_S_S640x3x80 (constant S_ FTy.f32 991054117#32))))
                    (broadcastInDim S640x3x80 ![] bcast_S_S640x3x80 (Host.log (constant S_ FTy.f32 1073741824#32)))))
                (broadcastInDim S640x3x80 ![] bcast_S_S640x3x80 (constant S_ FTy.f32 1065353216#32))))))

/-- A block's exponent is that of its largest magnitude. -/
theorem eOf_at (A : FVec Ideal S640x3x80 .f32) (i : S640x3x80.Idx) : (eOf A i : EReal) = Spec.expo (A i) := by
  unfold eOf Spec.expo
  simp only [ValueIdx.select_apply, ValueIdx.cmpf_apply, ValueIdx.minimumf_apply, ValueIdx.maximumf_apply, ValueIdx.addf_apply, ValueIdx.mulf_apply,
    ValueIdx.broadcastInDim_scalar_apply, ValueIdx.hostDivf_apply, floor_apply, log_apply, id, ValueIdx.constant_apply]
  exact select_oeq _ _ _ _

/-- Element `l` of block `j` of a normalised row, over whatever the blocks hold. -/
abbrev yOf (V₀ : Valuation τ sig (Elt Ideal)) : FVec Ideal S640x3x80x128 .f32 := V₀ main_v42

/-- The largest magnitudes of the blocks. -/
def aOf (Y : FVec Ideal S640x3x80x128 .f32) : FVec Ideal S640x3x80 .f32 :=
  Host.reduce FloatOps.maximumf (Host.absf Y) (constant S_ FTy.f32 4286578688#32) reducesTo_S640x3x80x128_S640x3x80_d3 h_S_

/-- A block's largest magnitude. -/
theorem aOf_at (Y : FVec Ideal S640x3x80x128 .f32) (s : Fin 640) (b : Fin 3) (j : Fin 80) :
    (aOf Y (ix3 s b j) : EReal) = Finset.univ.fold max (Spec.lit 4286578688#32) fun l : Fin 128 =>
      max (Y (ix4 s b j l) : EReal) (-(Y (ix4 s b j l) : EReal)) := by
  unfold aOf
  pointwise
  rfl

/-- The reference's scales, over whatever the blocks hold. -/
theorem scaleB (V₀ : Valuation τ sig (Elt Ideal)) : StableHlo.after opsB V₀ main_v59
    = Host.powf (broadcastInDim S640x3x80 ![] bcast_S_S640x3x80 (constant S_ FTy.f32 1073741824#32)) (eOf (aOf (yOf V₀))) := by
  simp only [List.flatten_cons, List.flatten_nil, List.append_nil, opsB, List.drop, hostOps0_1, hostOps0_2, hostOps0_3, hostOps0_4,
    hostOps0_5, hostOps0_6, List.cons_append, List.nil_append]
  after_reads_simp
  simp -implicitDefEqProofs only [StableHlo.TRef.toBuf, StableHlo.TRef.ofBuf, cast_cast, cast_eq]
  rfl

/-- The codes before they are cast, of the blocks and their exponents. -/
def qOf (Y : FVec Ideal S640x3x80x128 .f32) (e : FVec Ideal S640x3x80 .f32) : FVec Ideal S640x3x80x128 .f32 :=
  minimumf (broadcastInDim S640x3x80x128 ![] bcast_S_S640x3x80x128 (id (constant S_ FTy.f32 1138753536#32)))
    (maximumf (broadcastInDim S640x3x80x128 ![] bcast_S_S640x3x80x128 (id (constant S_ FTy.f32 3286237184#32)))
      (mulf Y (broadcastInDim S640x3x80x128 ![0, 1, 2, 3] bcast_S640x3x80x1_S640x3x80x128_0_1_2_3
        (broadcastInDim S640x3x80x1 ![0, 1, 2] bcast_S640x3x80_S640x3x80x1_0_1_2
          (Host.powf (broadcastInDim S640x3x80 ![] bcast_S_S640x3x80 (constant S_ FTy.f32 1073741824#32)) (Host.negf e))))))

/-- A value of the blocks, broadcast along the columns of its block, at an index. -/
theorem bc_at (Z : FVec Ideal S640x3x80 .f32) (s : Fin 640) (b : Fin 3) (j : Fin 80) (l : Fin 128) :
    (broadcastInDim S640x3x80x128 ![0, 1, 2, 3] bcast_S640x3x80x1_S640x3x80x128_0_1_2_3
      (broadcastInDim S640x3x80x1 ![0, 1, 2] bcast_S640x3x80_S640x3x80x1_0_1_2 Z) (ix4 s b j l) : EReal) = Z (ix3 s b j) := by
  pointwise

/-- A code before it is cast, at any index, over the broadcast inverse scales. -/
theorem qOf_any (Y : FVec Ideal S640x3x80x128 .f32) (e : FVec Ideal S640x3x80 .f32) (i : S640x3x80x128.Idx) :
    (qOf Y e i : EReal) = min (Spec.lit 1138753536#32) (max (Spec.lit 3286237184#32)
      ((Y i : EReal) * (broadcastInDim S640x3x80x128 ![0, 1, 2, 3] bcast_S640x3x80x1_S640x3x80x128_0_1_2_3
        (broadcastInDim S640x3x80x1 ![0, 1, 2] bcast_S640x3x80_S640x3x80x1_0_1_2
          (Host.powf (broadcastInDim S640x3x80 ![] bcast_S_S640x3x80 (constant S_ FTy.f32 1073741824#32)) (Host.negf e))) i : EReal))) := by
  unfold qOf
  simp only [ValueIdx.minimumf_apply, ValueIdx.maximumf_apply, ValueIdx.mulf_apply, ValueIdx.broadcastInDim_scalar_apply, id]
  rfl

/-- A code before it is cast, at an index. -/
theorem qOf_at (Y : FVec Ideal S640x3x80x128 .f32) (e : FVec Ideal S640x3x80 .f32) (s : Fin 640) (b : Fin 3) (j : Fin 80)
    (l : Fin 128) : (qOf Y e (ix4 s b j l) : EReal) = min (Spec.lit 1138753536#32) (max (Spec.lit 3286237184#32)
      ((Y (ix4 s b j l) : EReal) * Ideal.pow (Spec.lit 1073741824#32) (-(e (ix3 s b j) : EReal)))) := by
  rw [qOf_any, bc_at, powf_apply, neg_apply, ValueIdx.broadcastInDim_scalar_apply]
  rfl

/-- Blocks of columns put side by side, at an index. -/
theorem flat_at (Q : FVec Ideal S640x3x80x128 .f32) (s : Fin 640) (b : Fin 3) (k : Fin 10240) :
    (shapeCast S640x3x10240 Q shapeCasts_S640x3x80x128_S640x3x10240 (ix3 s b k) : EReal) = Q (ix4 s b ⟨k.val / 128, by omega⟩ ⟨k.val % 128, by omega⟩) := by
  pointwise

/-- The reference's codes before they are cast, over whatever the blocks hold. -/
theorem codeB (V₀ : Valuation τ sig (Elt Ideal)) : StableHlo.after opsB V₀ main_v67
    = shapeCast S640x3x10240 (qOf (yOf V₀) (eOf (aOf (yOf V₀)))) shapeCasts_S640x3x80x128_S640x3x10240 := by
  simp only [List.flatten_cons, List.flatten_nil, List.append_nil, opsB, List.drop, hostOps0_1, hostOps0_2, hostOps0_3, hostOps0_4,
    hostOps0_5, hostOps0_6, List.cons_append, List.nil_append]
  after_reads_simp
  simp -implicitDefEqProofs only [StableHlo.TRef.toBuf, StableHlo.TRef.ofBuf, cast_cast, cast_eq]
  rfl

/-- The largest magnitude of a block of the reference's rows is the row's. -/
theorem amax_at (s : Fin 640) (b : Fin 3) (j : Fin 80) :
    (aOf (yOf (StableHlo.after opsA fun b => m (c, b))) (ix3 s b j) : EReal) = (row m c s b).amax j := by
  rw [aOf_at]
  unfold Spec.Row.amax yOf
  congr 1
  funext l
  rw [y_at]

/-- The reference's scale of a block is the row's. -/
theorem scale_at (s : Fin 640) (b : Fin 3) (j : Fin 80) : (V m c main_v59 (ix3 s b j) : EReal) = (row m c s b).scale j := by
  rw [V_eq, scaleB, powf_apply, eOf_at, amax_at, ValueIdx.broadcastInDim_scalar_apply]
  rfl

/-- The reference's code of a column, before it is cast, is the row's. -/
theorem code_at (s : Fin 640) (b : Fin 3) (k : Fin 10240) : (V m c main_v67 (ix3 s b k) : EReal)
    = (row m c s b).code ⟨k.val / 128, by omega⟩ ⟨k.val % 128, by omega⟩ := by
  rw [V_eq, codeB, flat_at, qOf_at, eOf_at, amax_at]
  unfold yOf Spec.Row.code
  rw [y_at]
  rfl

/-- Window 0 has one block, which starts at the array's first index. -/
theorem idx0 : ∀ (t : Fin cfg0.grid.N) (a : Fin 3), win0_0.index t a = 0 :=
  (by decide +kernel : ∀ (t : Fin grid0.N) (a : Fin 3), win0_0.index t a = 0)

/-- An index of window 0's block is the same index of its array. -/
theorem emb0 (t : Fin cfg0.grid.N) (y : S640x3x10240.Idx) (a : Fin 3) :
    (((cfg0.win 0).blk t).view.emb y a).val = (y a).val := by
  match a with
  | ⟨0, _⟩ => blk_simp; rw [idx0, Nat.zero_mul, Nat.zero_add]
  | ⟨1, _⟩ => blk_simp; rw [idx0, Nat.zero_mul, Nat.zero_add]
  | ⟨2, _⟩ => blk_simp; rw [idx0, Nat.zero_mul, Nat.zero_add]

/-- Window 1 has one block, which starts at the array's first index. -/
theorem idx1 : ∀ (t : Fin cfg0.grid.N) (a : Fin 3), win0_1.index t a = 0 :=
  (by decide +kernel : ∀ (t : Fin grid0.N) (a : Fin 3), win0_1.index t a = 0)

/-- An index of window 1's block is the same index of its array. -/
theorem emb1 (t : Fin cfg0.grid.N) (y : S640x3x10240.Idx) (a : Fin 3) :
    (((cfg0.win 1).blk t).view.emb y a).val = (y a).val := by
  match a with
  | ⟨0, _⟩ => blk_simp; rw [idx1, Nat.zero_mul, Nat.zero_add]
  | ⟨1, _⟩ => blk_simp; rw [idx1, Nat.zero_mul, Nat.zero_add]
  | ⟨2, _⟩ => blk_simp; rw [idx1, Nat.zero_mul, Nat.zero_add]

/-- What the cast leaves of an array is the array. -/
theorem canon_at (A : FVec Ideal S640x3x10240 .f32) (y : S640x3x10240.Idx) :
    (View.canon ([⟨r0_0, k0_pay1 (F := Ideal) (View.ld A r0_0)⟩] :
      List (View.Piece (Elt Ideal) S640x3x10240 .fp8e4m3)) y : EReal) = A y := by
  rw [Value.canon1_eq]
  show A (r0_0.idx (Value.ix1_0 y)) = A y
  refine congrArg A (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The casting kernel's result is the array it casts, the cast being the identity. -/
theorem cast_eq_at (i : S640x3x10240.Idx) : ((dats m 0 c).arrAt 1 cfg0.N i : EReal) = V m c main_v67 i := by
  have h := (dats m 0 c).arrAt_eq_of_covers 1 (fun y => V m c main_v67 y) (by decide +kernel) fun t hf y => by
    rw [after0_1]
    unfold out0_1 iblk
    generalize hA : V m c (Pipeline.arrRef spec0 0) = A
    refine (cast_eq _ _).trans ?_
    refine (canon_at _ _).trans ?_
    show A _ = A _
    refine congrArg A (funext fun a => Fin.ext ?_)
    rw [emb1]
    refine (emb0 t _ a).trans ?_
    rfl
  exact congrFun h i
/-- The casting kernel's result is the row's code. -/
theorem cast_at (s : Fin 640) (b : Fin 3) (k : Fin 10240) : ((dats m 0 c).arrAt 1 cfg0.N (ix3 s b k) : EReal)
    = (row m c s b).code ⟨k.val / 128, by omega⟩ ⟨k.val % 128, by omega⟩ :=
  (cast_eq_at m c _).trans (code_at m c s b k)

end Cert.ReferenceIdeal.Hand

end
-- ==== Proof.Hand.Blocks.lean ====
/-
  What one trip of each of the kernel's two loops writes, as an operation repeated over the eighty column blocks.

  The printed trips are straight-line programs over eighty blocks of 128 columns, cut into parts at places that mean
  nothing. Here each is the same operations written once for a block, so that what follows is proved for a block and
  not eighty times.
-/
module

public import proofs.«01_k».proof.Proof.Gen.KernelIdeal.Frame
public import proofs.«01_k».proof.Proof.Gen.KernelIdeal.Loops
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The first row of trip `n`, as the kernel computes it. -/
def rowOff (n : ℕ) : ℕ := (Scalar.indexCast (Scalar.muli (Scf.iv 0#32 1#32 n) 32#32)).toNat

/-- The corner of column block `j` of trip `n`'s rows. -/
def blkOff (n : ℕ) (j : Fin 80) : Fin 3 → ℕ := ![0, rowOff n, 128 * j.val]

/-- A block of 32 rows and 128 columns at `blkOff` lies within the tile. -/
theorem blkOff_inb (n : Fin 4) (j : Fin 80) : ∀ a, blkOff n.val j a + S1x32x128.size a ≤ S1x128x10240.size a := by
  revert n j; decide +kernel

/-- Column block `j` of trip `n`'s rows of the activations. -/
def blk (arg3 : Memref sig .tc .vmem S1x128x10240 .bf16) (X : BufTy.Contents (Elt F) arg3.view.ty) (n : Fin 4) (j : Fin 80) :
    Vec F S1x32x128 .bf16 :=
  View.readAt (Elt F) arg3.view (Rect.unit (s := S1x128x10240) (blkOff n.val j) S1x32x128.size (blkOff_inb n j)).toLoadRect X

/-- The block with its unit axis dropped and its entries widened. -/
def widen (x : Vec F S1x32x128 .bf16) : FVec F S32x128 .f32 :=
  extf .f32 (shapeCast S32x128 x shapeCasts_S1x32x128_S32x128) bitsLt_bf16_f32

/-- The sum of the first `n` blocks, entry by entry. -/
def accSum (L : Fin 80 → Vec F S1x32x128 .bf16) : (n : ℕ) → n ≤ 80 → FVec F S32x128 .f32
  | 0, _ => broadcast S32x128 (Scalar.ofBits .f32 0x00000000#32)
  | n + 1, h => addf (accSum L n (Nat.le_of_succ_le h)) (widen (L ⟨n, h⟩))

/-- Sums along the lanes, as a column. -/
def laneSum (x : FVec F S32x128 .f32) : FVec F S32x1 .f32 :=
  shapeCast S32x1 (multiReduction .add [1] S32 x 0x00000000#32 reduces_S32x128_S32 (.inl rfl) rfl) shapeCasts_S32_S32x1

/-- The rows' means. -/
def meanCol (c : F .f32) (L : Fin 80 → Vec F S1x32x128 .bf16) : FVec F S32x1 .f32 :=
  divf (laneSum (accSum L 80 (le_refl _))) (broadcast S32x1 c)

/-- The block less a column. -/
def centred (mu : FVec F S32x1 .f32) (x : Vec F S1x32x128 .bf16) : FVec F S32x128 .f32 :=
  subf (widen x) (broadcastTo S32x128 mu broadcasts_S32x1_S32x128)

/-- The sum of the squares of the first `n` blocks less a column, entry by entry. -/
def accSq (mu : FVec F S32x1 .f32) (L : Fin 80 → Vec F S1x32x128 .bf16) : (n : ℕ) → n ≤ 80 → FVec F S32x128 .f32
  | 0, _ => broadcast S32x128 (Scalar.ofBits .f32 0x00000000#32)
  | n + 1, h => addf (accSq mu L n (Nat.le_of_succ_le h)) (mulf (centred mu (L ⟨n, h⟩)) (centred mu (L ⟨n, h⟩)))

/-- The rows' sums of squared deviations. -/
def m2Col (c : F .f32) (L : Fin 80 → Vec F S1x32x128 .bf16) : FVec F S32x1 .f32 :=
  laneSum (accSq (meanCol c L) L 80 (le_refl _))

/-- The first loop's trip writes the rows' means into column 0 and their sums of squared deviations into column 1. -/
theorem trip1_pieces (c : Dev nD) (i : grid0.Coords)
      (arg2 : Memref sig .tc .smem S1 .f32) (harg2 : arg2.IsWhole)
      (arg3 : Memref sig .tc .vmem S1x128x10240 .bf16) (harg3 : arg3.IsWhole)
      (arg4 : Memref sig .tc .vmem S3x1x640 .f32) (harg4 : arg4.IsWhole)
      (arg5 : Memref sig .tc .vmem S3x1x640 .f32) (harg5 : arg5.IsWhole)
      (arg6 : Memref sig .tc .vmem S1x10240 .f32) (harg6 : arg6.IsWhole)
      (arg7 : Memref sig .tc .vmem S1x10240 .f32) (harg7 : arg7.IsWhole)
      (arg8 : Memref sig .tc .vmem S1x128x10240 .fp8e4m3) (harg8 : arg8.IsWhole)
      (arg9 : Memref sig .tc .vmem S1x80x128 .f32) (harg9 : arg9.IsWhole)
      (arg10 : Memref sig .tc .vmem S3x640 .f32) (harg10 : arg10.IsWhole)
      (arg11 : Memref sig .tc .vmem S3x640 .f32) (harg11 : arg11.IsWhole)
      (arg12 : Memref sig .tc .vmem S128x128 .f32) (harg12 : arg12.IsWhole)
      (arg13 : Memref sig .tc .vmem S128x128 .f32) (harg13 : arg13.IsWhole)
      (cst : F .f32) (X3 : BufTy.Contents (Elt F) arg3.view.ty) (k : Fin k0_t1_loop.trips) (n : Fin 4) (hk : k.val = n.val) :
    tripL_k0_t1 (F := F) Variants.none c none i arg2 harg2 arg3 harg3 arg4 harg4 arg5 harg5 arg6 harg6 arg7 harg7 arg8 harg8 arg9 harg9 arg10 harg10 arg11 harg11 arg12 harg12 arg13 harg13 cst X3 k
      = [⟨Rect.unit (s := S128x128) (k0_off82 k) ![32, 1] (k0_off82_inb k), k0_pay541 (m2Col cst (blk arg3 X3 n))⟩,
          ⟨Rect.unit (s := S128x128) (k0_off81 k) ![32, 1] (k0_off81_inb k), k0_pay540 (meanCol cst (blk arg3 X3 n))⟩] := by
  obtain ⟨n, hn⟩ := n
  obtain rfl : k.val = n := hk
  unfold tripL_k0_t1 trip_k0_t1
  rfl

/-! ## The second loop -/

/-- Columns `128 * j` on of a row over the channels. -/
def rowBlk {sp : Space} (r : Memref sig .tc sp S1x10240 .f32) (X : BufTy.Contents (Elt F) r.view.ty) (j : Fin 80) : Vec F S1x128 .f32 :=
  View.readAt (Elt F) r.view (Rect.unit (s := S1x10240) ![0, 128 * j.val] S1x128.size (by revert j; decide +kernel)).toLoadRect X

/-- Column 0 of trip `k`'s rows of the statistics: the means. -/
def muCol (arg12 : Memref sig .tc .vmem S128x128 .f32) (X : BufTy.Contents (Elt F) arg12.view.ty) (k : Fin k0_t2_loop.trips) : Vec F S32x1 .f32 :=
  View.readAt (Elt F) arg12.view (Rect.unit (s := S128x128) (k0_off85 k) S32x1.size (k0_off85_inb k)).toLoadRect X

/-- Column 1 of trip `k`'s rows of the statistics: the reciprocal deviations. -/
def rsCol (arg12 : Memref sig .tc .vmem S128x128 .f32) (X : BufTy.Contents (Elt F) arg12.view.ty) (k : Fin k0_t2_loop.trips) : Vec F S32x1 .f32 :=
  View.readAt (Elt F) arg12.view (Rect.unit (s := S128x128) (k0_off86 k) S32x1.size (k0_off86_inb k)).toLoadRect X

/-- A block's codes. -/
def codesBlk (mu rs : Vec F S32x1 .f32) (x : Vec F S1x32x128 .bf16) (g b : Vec F S1x128 .f32) : FVec F S1x32x128 .fp8e4m3 :=
  k0_pay60 (k0_pay55 mu rs x g b) (k0_pay58 mu rs x g b) (k0_pay59 mu rs x g b) (Scalar.ofBits .f32 0x3F800000#32)

/-- The corner of column `j` of trip `n`'s rows. -/
def colOff (n : ℕ) (j : Fin 80) : Fin 2 → ℕ := ![rowOff n, j.val]

/-- A column of 32 rows at `colOff` lies within the scratch. -/
theorem colOff_inb (n : Fin 4) (j : Fin 80) : ∀ a, colOff n.val j a + (![32, 1] : Fin 2 → ℕ) a ≤ S128x128.size a := by
  revert n j; decide +kernel

/-- The second loop's trip writes each block's codes. -/
theorem trip2_codes (c : Dev nD) (i : grid0.Coords)
      (arg2 : Memref sig .tc .smem S1 .f32) (harg2 : arg2.IsWhole)
      (arg3 : Memref sig .tc .vmem S1x128x10240 .bf16) (harg3 : arg3.IsWhole)
      (arg4 : Memref sig .tc .vmem S3x1x640 .f32) (harg4 : arg4.IsWhole)
      (arg5 : Memref sig .tc .vmem S3x1x640 .f32) (harg5 : arg5.IsWhole)
      (arg6 : Memref sig .tc .vmem S1x10240 .f32) (harg6 : arg6.IsWhole)
      (arg7 : Memref sig .tc .vmem S1x10240 .f32) (harg7 : arg7.IsWhole)
      (arg8 : Memref sig .tc .vmem S1x128x10240 .fp8e4m3) (harg8 : arg8.IsWhole)
      (arg9 : Memref sig .tc .vmem S1x80x128 .f32) (harg9 : arg9.IsWhole)
      (arg10 : Memref sig .tc .vmem S3x640 .f32) (harg10 : arg10.IsWhole)
      (arg11 : Memref sig .tc .vmem S3x640 .f32) (harg11 : arg11.IsWhole)
      (arg12 : Memref sig .tc .vmem S128x128 .f32) (harg12 : arg12.IsWhole)
      (arg13 : Memref sig .tc .vmem S128x128 .f32) (harg13 : arg13.IsWhole)
      (a0 v8 : BitVec 32) (v17 v33 : FVec F S1x128 .f32) (X3 : BufTy.Contents (Elt F) arg3.view.ty) (X6 : BufTy.Contents (Elt F) arg6.view.ty)
      (X7 : BufTy.Contents (Elt F) arg7.view.ty) (X12 : BufTy.Contents (Elt F) arg12.view.ty) (k : Fin k0_t2_loop.trips) (n : Fin 4) (hk : k.val = n.val) :
    (tripL_k0_t2 (F := F) Variants.none c none i arg2 harg2 arg3 harg3 arg4 harg4 arg5 harg5 arg6 harg6 arg7 harg7 arg8 harg8 arg9 harg9 arg10 harg10 arg11 harg11 arg12 harg12 arg13 harg13 a0 v8 v17 v33 X3 X6 X7 X12 k).1
      = View.tilePieces (s := S1x128x10240) (e := .fp8e4m3) S1x32x128.size (blkOff n.val) (blkOff_inb n)
          (fun j => codesBlk (muCol arg12 X12 k) (rsCol arg12 X12 k) (blk arg3 X3 n j) (rowBlk arg6 X6 j) (rowBlk arg7 X7 j)) 80 (le_refl _) := by
  obtain ⟨n, hn⟩ := n
  obtain rfl : k.val = n := hk
  unfold tripL_k0_t2 trip_k0_t2
  rfl

/-- The second loop's trip writes each block's largest magnitudes. -/
theorem trip2_amax (c : Dev nD) (i : grid0.Coords)
      (arg2 : Memref sig .tc .smem S1 .f32) (harg2 : arg2.IsWhole)
      (arg3 : Memref sig .tc .vmem S1x128x10240 .bf16) (harg3 : arg3.IsWhole)
      (arg4 : Memref sig .tc .vmem S3x1x640 .f32) (harg4 : arg4.IsWhole)
      (arg5 : Memref sig .tc .vmem S3x1x640 .f32) (harg5 : arg5.IsWhole)
      (arg6 : Memref sig .tc .vmem S1x10240 .f32) (harg6 : arg6.IsWhole)
      (arg7 : Memref sig .tc .vmem S1x10240 .f32) (harg7 : arg7.IsWhole)
      (arg8 : Memref sig .tc .vmem S1x128x10240 .fp8e4m3) (harg8 : arg8.IsWhole)
      (arg9 : Memref sig .tc .vmem S1x80x128 .f32) (harg9 : arg9.IsWhole)
      (arg10 : Memref sig .tc .vmem S3x640 .f32) (harg10 : arg10.IsWhole)
      (arg11 : Memref sig .tc .vmem S3x640 .f32) (harg11 : arg11.IsWhole)
      (arg12 : Memref sig .tc .vmem S128x128 .f32) (harg12 : arg12.IsWhole)
      (arg13 : Memref sig .tc .vmem S128x128 .f32) (harg13 : arg13.IsWhole)
      (a0 v8 : BitVec 32) (v17 v33 : FVec F S1x128 .f32) (X3 : BufTy.Contents (Elt F) arg3.view.ty) (X6 : BufTy.Contents (Elt F) arg6.view.ty)
      (X7 : BufTy.Contents (Elt F) arg7.view.ty) (X12 : BufTy.Contents (Elt F) arg12.view.ty) (k : Fin k0_t2_loop.trips) (n : Fin 4) (hk : k.val = n.val) :
    (tripL_k0_t2 (F := F) Variants.none c none i arg2 harg2 arg3 harg3 arg4 harg4 arg5 harg5 arg6 harg6 arg7 harg7 arg8 harg8 arg9 harg9 arg10 harg10 arg11 harg11 arg12 harg12 arg13 harg13 a0 v8 v17 v33 X3 X6 X7 X12 k).2
      = View.tilePieces (s := S128x128) (e := .f32) ![32, 1] (colOff n.val) (colOff_inb n)
          (fun j => k0_pay57 (muCol arg12 X12 k) (rsCol arg12 X12 k) (blk arg3 X3 n j) (rowBlk arg6 X6 j) (rowBlk arg7 X7 j)) 80 (le_refl _) := by
  obtain ⟨n, hn⟩ := n
  obtain rfl : k.val = n := hk
  unfold tripL_k0_t2 trip_k0_t2
  rfl

end Cert.KernelIdeal.Hand

end
-- ==== Proof.Hand.Exponent.lean ====
/-
  The exponent the kernel counts out and the exponent the logarithm gives are the same number.

  The kernel counts how many of the powers of two from -126 to 119 lie at or below the quotient, subtracts 126, and builds
  the power of two from its bit pattern. The specification takes the floor of the logarithm, adds one and clamps.
-/
module

public import proofs.«01_k».proof.Proof.Hand.Spec

@[expose] public section

noncomputable section

namespace Cert.Spec

open Idealize.ShloMosaic

/-- The fields of the pattern of a power of two. -/
theorem fields : ∀ f : Fin 255, (((BitVec.ofNat 32 f.val) <<< 23#32).extractLsb' 23 8).toNat = f.val
    ∧ ((BitVec.ofNat 32 f.val) <<< 23#32).extractLsb' 31 1 = 0#1
    ∧ (((BitVec.ofNat 32 f.val) <<< 23#32).extractLsb' 0 23).toNat = 0 := by
  decide +kernel

/-- A pattern whose exponent field is `f` and whose other fields are zero denotes a power of two. -/
theorem ieee_pow (b : BitVec 32) (f : ℕ) (h1 : 1 ≤ f) (h2 : f < 255) (e1 : (b.extractLsb' 23 8).toNat = f)
    (e2 : b.extractLsb' 31 1 = 0#1) (e3 : (b.extractLsb' 0 23).toNat = 0) :
    Ideal.ieee 8 23 b = (((2 : ℝ) ^ ((f : ℤ) - 127) : ℝ) : EReal) := by
  have n1 : ¬ f = 2 ^ 8 - 1 := by norm_num; omega
  have n2 : ¬ f = 0 := by omega
  unfold Ideal.ieee
  simp only [e1, e2, e3, Nat.reduceAdd, n1, n2, if_false]
  congr 1
  rw [if_neg (by decide), show ((f : ℤ) - (2 ^ (8 - 1) - 1) - ((23 : ℕ) : ℤ)) = ((f : ℤ) - 127) + (-23) from by norm_num; ring,
    zpow_add₀ (by norm_num)]
  norm_num
  ring

/-- A biased exponent moved to its place denotes the power of two. -/
theorem ofBits_shift (f : ℕ) (h1 : 1 ≤ f) (h2 : f < 255) :
    Ideal.ofBits .f32 ((BitVec.ofNat 32 f) <<< 23#32) = (((2 : ℝ) ^ ((f : ℤ) - 127) : ℝ) : EReal) :=
  ieee_pow _ f h1 h2 (fields ⟨f, h2⟩).1 (fields ⟨f, h2⟩).2.1 (fields ⟨f, h2⟩).2.2

/-- The pattern of 0.0 is read as 0. -/
theorem lit_zero : lit 0#32 = 0 := by simp [Ideal.ofBits, Ideal.ieee]
/-- The pattern of 1.0 is read as 1. -/
theorem lit_one : lit 1065353216#32 = ((1 : ℝ) : EReal) := by simp [Ideal.ofBits, Ideal.ieee, -EReal.coe_mul]; norm_num
/-- The pattern of 2.0 is read as 2. -/
theorem lit_two : lit 1073741824#32 = ((2 : ℝ) : EReal) := by simp [Ideal.ofBits, Ideal.ieee, -EReal.coe_mul]; norm_num
/-- The pattern of 120.0 is read as 120. -/
theorem lit_hi : lit 1123024896#32 = ((120 : ℝ) : EReal) := by simp [Ideal.ofBits, Ideal.ieee, -EReal.coe_mul]; norm_num
/-- The pattern of -126.0 is read as -126. -/
theorem lit_lo : lit 3271294976#32 = ((-126 : ℝ) : EReal) := by simp [Ideal.ofBits, Ideal.ieee, -EReal.coe_mul]; norm_num
/-- The pattern of the float32 nearest to 1 / 448 is read as some positive real. -/
theorem lit_kappa : ∃ κ : ℝ, 0 < κ ∧ lit 991054117#32 = (κ : EReal) := by
  refine ⟨_, ?_, by unfold lit Ideal.ofBits Ideal.ieee; simp [-EReal.coe_mul]; rfl⟩
  norm_num

/-- The threshold the count compares with at position `i`. -/
def thr (i : ℕ) : EReal := Ideal.ofBits .f32 ((1#32 + BitVec.ofNat 32 i) <<< 23#32)

/-- Threshold `i` is 2 to the power `i - 126`. -/
theorem thr_eq (i : ℕ) (h : i < 246) : thr i = (((2 : ℝ) ^ ((i : ℤ) - 126) : ℝ) : EReal) := by
  have e : (1#32 + BitVec.ofNat 32 i) = BitVec.ofNat 32 (1 + i) := by
    rw [BitVec.ofNat_add]
  unfold thr
  rw [e, ofBits_shift _ (by omega) (by omega)]
  congr 2
  push_cast
  ring

/-- The count of the thresholds at or below `p`, as the kernel adds it up. -/
def count (p : EReal) : EReal :=
  ∑ i : Fin 246, Scalar.select (Ideal.cmp .ole (thr i.val) p) (lit 1065353216#32) (lit 0#32)

/-- A selection on `x <= y` is an if on it. -/
theorem select_ole (x y a b : EReal) : Scalar.select (Ideal.cmp .ole x y) a b = if x ≤ y then a else b := by
  unfold Scalar.select Ideal.cmp
  by_cases h : x ≤ y <;> simp [h]

/-- A selection on `x = y` is an if on it. -/
theorem select_oeq (x y : EReal) (w : ℕ) (a b : BitVec w) : Scalar.select (Ideal.cmp .oeq x y) a b = if x = y then a else b := by
  unfold Scalar.select Ideal.cmp
  by_cases h : x = y <;> simp [h]

/-- A sum of reals is a real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- The thresholds at or below `p` being the first `n`, the count is `n`. -/
theorem count_eq (p : EReal) (n : ℕ) (hn : n ≤ 246) (h : ∀ i, i < 246 → (thr i ≤ p ↔ i < n)) : count p = ((n : ℝ) : EReal) := by
  unfold count
  have e : ∀ i : Fin 246, Scalar.select (Ideal.cmp .ole (thr i.val) p) (lit 1065353216#32) (lit 0#32)
      = (((if i.val < n then 1 else 0 : ℝ)) : EReal) := by
    intro i
    rw [select_ole, lit_one, lit_zero]
    by_cases hi : i.val < n
    · rw [if_pos ((h i.val i.isLt).2 hi), if_pos hi]
    · rw [if_neg (fun hh => hi ((h i.val i.isLt).1 hh)), if_neg hi, EReal.coe_zero]
  rw [Finset.sum_congr rfl fun i _ => e i, ← coe_sum]
  congr 1
  rw [Fin.sum_univ_eq_sum_range (fun i => if i < n then (1 : ℝ) else 0) 246, Finset.sum_ite, Finset.sum_const_zero, add_zero,
    Finset.sum_const, nsmul_eq_mul, mul_one]
  congr 1
  have : Finset.filter (fun i => i < n) (Finset.range 246) = Finset.range n := by
    ext i; simp only [Finset.mem_filter, Finset.mem_range]; omega
  rw [this, Finset.card_range]

/-- The exponent of a block whose largest magnitude is `a`, as the kernel counts it. -/
def kexp (a : EReal) : BitVec 32 :=
  Scalar.select (Ideal.cmp .oeq a (lit 0#32)) 0#32 (Ideal.fptosi 32 (count (a * lit 991054117#32)) - 126#32)

/-- A natural number of at most 246, as a float, converts to the same integer. -/
theorem fptosi_nat (n : ℕ) (hn : n ≤ 246) : Ideal.fptosi 32 ((n : ℝ) : EReal) = BitVec.ofNat 32 n := by
  unfold Ideal.fptosi
  rw [Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) from by norm_num; omega]
  exact BitVec.ofInt_natCast 32 n

/-- The counted exponent and the logarithm's are the same integer, in the range of a float32's exponents. -/
theorem exponent (a : EReal) (ha : 0 ≤ a) : ∃ n : ℕ, n ≤ 246 ∧ kexp a = BitVec.ofNat 32 n - 126#32
    ∧ expo a = (((n : ℤ) - 126 : ℤ) : ℝ) := by
  unfold kexp expo
  rw [select_oeq, lit_zero, lit_one, lit_two, lit_hi, lit_lo]
  by_cases h0 : a = 0
  · exact ⟨126, by norm_num, by rw [if_pos h0]; rfl, by rw [if_pos h0]; norm_num⟩
  rw [if_neg h0, if_neg h0]
  obtain ⟨κ, hκ, hl⟩ := lit_kappa
  rw [hl]
  induction a with
  | bot => exact absurd ha (by simp)
  | top =>
    refine ⟨246, le_refl _, ?_, ?_⟩
    · rw [EReal.top_mul_coe_of_pos hκ, count_eq ⊤ 246 (le_refl _) (fun i hi => by simp [hi]), fptosi_nat _ (le_refl _)]
    · have h2 : (0 : ℝ) < Real.log 2 := Real.log_pos (by norm_num)
      have hlog2 : Ideal.log ((2 : ℝ) : EReal) = ((Real.log 2 : ℝ) : EReal) := if_neg (by norm_num)
      have hdiv : Ideal.div (⊤ : EReal) ((Real.log 2 : ℝ) : EReal) = ⊤ := by
        unfold Ideal.div
        rw [if_neg (by exact_mod_cast h2.ne'), ← EReal.coe_inv, EReal.top_mul_coe_of_pos (inv_pos.2 h2)]
      rw [EReal.top_mul_coe_of_pos hκ, show Ideal.log ⊤ = ⊤ from rfl, hlog2, hdiv, Ideal.liftRound_top, EReal.top_add_coe,
        max_eq_right le_top, min_eq_left le_top]
      norm_num
  | coe r =>
    have hr : 0 < r := lt_of_le_of_ne (by exact_mod_cast ha) (fun h => h0 (by rw [← h]; rfl))
    rw [← EReal.coe_mul]
    have hp : 0 < r * κ := mul_pos hr hκ
    generalize r * κ = p at hp
    have hlog : Ideal.log ((p : ℝ) : EReal) = ((Real.log p : ℝ) : EReal) := if_neg (not_le.2 hp)
    have hlog2 : Ideal.log ((2 : ℝ) : EReal) = ((Real.log 2 : ℝ) : EReal) := if_neg (by norm_num)
    have h2 : (0 : ℝ) < Real.log 2 := Real.log_pos (by norm_num)
    have hdiv : Ideal.div ((Real.log p : ℝ) : EReal) ((Real.log 2 : ℝ) : EReal) = ((Real.log p / Real.log 2 : ℝ) : EReal) := by
      unfold Ideal.div
      rw [if_neg (by exact_mod_cast h2.ne'), ← EReal.coe_inv, ← EReal.coe_mul]
      rw [div_eq_mul_inv]
    rw [hlog, hlog2, hdiv, Ideal.liftRound_coe]
    set L : ℤ := Int.floor (Real.log p / Real.log 2) with hL
    have key : ∀ z : ℤ, (2 : ℝ) ^ z ≤ p ↔ z ≤ L := by
      intro z
      rw [hL, Int.le_floor, le_div_iff₀ h2, ← Real.log_zpow, Real.log_le_log_iff (zpow_pos (by norm_num) z) hp]
    refine ⟨(min 246 (max 0 (L + 127))).toNat, by omega, ?_, ?_⟩
    · rw [count_eq _ (min 246 (max 0 (L + 127))).toNat (by omega) ?_, fptosi_nat _ (by omega)]
      intro i hi
      rw [thr_eq i hi, EReal.coe_le_coe_iff, key]
      omega
    · rw [← EReal.coe_add, ← EReal.coe_strictMono.monotone.map_max, ← EReal.coe_strictMono.monotone.map_min]
      congr 1
      have e : ((L : ℝ) + 1) = ((L + 1 : ℤ) : ℝ) := by push_cast; ring
      have e1 : (120 : ℝ) = ((120 : ℤ) : ℝ) := by norm_num
      have e2 : (-126 : ℝ) = ((-126 : ℤ) : ℝ) := by norm_num
      rw [e, e1, e2, ← Int.cast_max, ← Int.cast_min]
      congr 1
      omega

/-- A real power of two. -/
theorem pow_two (E : ℤ) : Ideal.pow (lit 1073741824#32) (((E : ℤ) : ℝ) : EReal) = (((2 : ℝ) ^ E : ℝ) : EReal) := by
  rw [lit_two]
  show ((Real.rpow 2 (E : ℝ) : ℝ) : EReal) = _
  congr 1
  exact Real.rpow_intCast 2 E

/-- The scale the kernel builds from the counted exponent is the power of two of the specification. -/
theorem scale_bits (a : EReal) (ha : 0 ≤ a) :
    Ideal.ofBits .f32 ((127#32 + kexp a) <<< 23#32) = Ideal.pow (lit 1073741824#32) (expo a) := by
  obtain ⟨n, hn, e1, e2⟩ := exponent a ha
  have e : 127#32 + (BitVec.ofNat 32 n - 126#32) = BitVec.ofNat 32 (n + 1) := by
    apply BitVec.eq_of_toNat_eq
    simp
    omega
  rw [e1, e2, pow_two, e, ofBits_shift _ (by omega) (by omega)]
  congr 2
  push_cast
  ring

/-- The reciprocal scale the kernel builds from the counted exponent is the power of two of the specification. -/
theorem inv_bits (a : EReal) (ha : 0 ≤ a) :
    Ideal.ofBits .f32 ((127#32 - kexp a) <<< 23#32) = Ideal.pow (lit 1073741824#32) (-expo a) := by
  obtain ⟨n, hn, e1, e2⟩ := exponent a ha
  have e : 127#32 - (BitVec.ofNat 32 n - 126#32) = BitVec.ofNat 32 (253 - n) := by
    apply BitVec.eq_of_toNat_eq
    simp
    omega
  rw [e1, e2, ← EReal.coe_neg, ← Int.cast_neg, pow_two, e, ofBits_shift _ (by omega) (by omega)]
  congr 2
  push_cast [show n ≤ 253 by omega]
  ring

end Cert.Spec

end
-- ==== Proof.Hand.Values.lean ====
/-
  What the kernel's operations compute at an index, in extended reals.
-/
module

public import proofs.«01_k».proof.Proof.Hand.Blocks
public import proofs.«01_k».proof.Proof.Hand.Exponent
public import Idealize.ShloMosaic.Lib.Pipeline.ValueKit
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe

/-! ## The first loop -/

/-- A widened block has the values of the block. -/
theorem widen_at (x : Vec Ideal S1x32x128 .bf16) (r : Fin 32) (l : Fin 128) : (widen x (ix2 r l) : EReal) = x (ix3 0 r l) := by
  unfold widen
  pointwise

/-- The sum over the lanes, at one row. -/
theorem laneSum_at (x : FVec Ideal S32x128 .f32) (r : Fin 32) : (laneSum x (ix2 r 0) : EReal) = ∑ l : Fin 128, (x (ix2 r l) : EReal) := by
  unfold laneSum
  pointwise

/-- The sum of 80 blocks, at one row and lane. -/
theorem accSum_at (L : Fin 80 → Vec Ideal S1x32x128 .bf16) (r : Fin 32) (l : Fin 128) : ∀ (n : ℕ) (h : n ≤ 80),
    (accSum L n h (ix2 r l) : EReal) = ∑ j : Fin n, (L ⟨j.val, by omega⟩ (ix3 0 r l) : EReal)
  | 0, _ => by
    show Spec.lit 0#32 = _
    rw [Spec.lit_zero]; simp
  | n + 1, h => by
    show (accSum L n _ (ix2 r l) : EReal) + (widen (F := Ideal) _ (ix2 r l) : EReal) = _
    rw [accSum_at L r l n _, widen_at, Fin.sum_univ_castSucc]
    rfl

/-- A block less the mean of its row. -/
theorem centred_at (mu : FVec Ideal S32x1 .f32) (x : Vec Ideal S1x32x128 .bf16) (r : Fin 32) (l : Fin 128) :
    (centred mu x (ix2 r l) : EReal) = (x (ix3 0 r l) : EReal) - mu (ix2 r 0) := by
  unfold centred widen
  pointwise

/-- The sum of the squares of 80 centred blocks, at one row and lane. -/
theorem accSq_at (mu : FVec Ideal S32x1 .f32) (L : Fin 80 → Vec Ideal S1x32x128 .bf16) (r : Fin 32) (l : Fin 128) : ∀ (n : ℕ) (h : n ≤ 80),
    (accSq mu L n h (ix2 r l) : EReal) = ∑ j : Fin n, ((L ⟨j.val, by omega⟩ (ix3 0 r l) : EReal) - mu (ix2 r 0)) * ((L ⟨j.val, by omega⟩ (ix3 0 r l) : EReal) - mu (ix2 r 0))
  | 0, _ => by
    show Spec.lit 0#32 = _
    rw [Spec.lit_zero]; simp
  | n + 1, h => by
    show (accSq mu L n _ (ix2 r l) : EReal) + (centred (F := Ideal) mu _ (ix2 r l) : EReal) * (centred (F := Ideal) mu _ (ix2 r l) : EReal) = _
    rw [accSq_at mu L r l n _, centred_at, Fin.sum_univ_castSucc]
    rfl

/-- A sum over the lanes of sums over the blocks is the sum over the columns. -/
theorem sum_cols (f : Fin 10240 → EReal) : ∑ l : Fin 128, ∑ j : Fin 80, f (Spec.Row.col j l) = ∑ k, f k := by
  rw [Finset.sum_comm, ← Finset.sum_product', Finset.univ_product_univ]
  refine Fintype.sum_equiv (finProdFinEquiv (m := 80) (n := 128)) _ _ fun p => ?_
  congr 1
  apply Fin.ext
  show p.1.val * 128 + p.2.val = p.2.val + 128 * p.1.val
  omega

/-- The column of means is the mean of each row. -/
theorem meanCol_at (R : Spec.Row) (L : Fin 80 → Vec Ideal S1x32x128 .bf16) (r : Fin 32)
    (h : ∀ j l, (L j (ix3 0 r l) : EReal) = R.x (Spec.Row.col j l)) :
    (meanCol (Scalar.ofBits .f32 0x46200000#32) L (ix2 r 0) : EReal) = R.meanLoc := by
  show Ideal.div (laneSum (accSum L 80 _) (ix2 r 0)) _ = _
  rw [laneSum_at]
  simp only [accSum_at, h]
  rw [sum_cols]
  rfl

/-- The column of sums of squares is that of each row. -/
theorem m2Col_at (R : Spec.Row) (L : Fin 80 → Vec Ideal S1x32x128 .bf16) (r : Fin 32)
    (h : ∀ j l, (L j (ix3 0 r l) : EReal) = R.x (Spec.Row.col j l)) :
    (m2Col (Scalar.ofBits .f32 0x46200000#32) L (ix2 r 0) : EReal) = R.m2Loc := by
  unfold m2Col
  rw [laneSum_at]
  simp only [accSq_at, h, meanCol_at R L r h]
  rw [sum_cols fun k => (R.x k - R.meanLoc) * (R.x k - R.meanLoc)]
  rfl

/-- The first stored column is the computed one. -/
theorem pay540_at (x : FVec Ideal S32x1 .f32) : k0_pay540 x = x := by
  unfold k0_pay540; funext i; pointwise

/-- The second stored column is the computed one. -/
theorem pay541_at (x : FVec Ideal S32x1 .f32) : k0_pay541 x = x := by
  unfold k0_pay541; funext i; pointwise

/-! ## The merge with the peer -/

/-- The merged mean of one row. -/
theorem pay545_at (v0 : EReal) (v3 : Vec Ideal S128x128 .f32) (v11 : Vec Ideal S1x1x128 .f32) (s : Fin 128) :
    (k0_pay545 (F := Ideal) v0 v3 v11 (ix2 0 s) : EReal)
      = (v3 (ix2 s 0) : EReal) + ((v11 (ix3 0 0 s) : EReal) - v3 (ix2 s 0)) * Ideal.div v0 (Spec.lit 1176502272#32 + v0) := by
  unfold k0_pay545 k0_pay544 k0_pay543 k0_pay542 k0_pay539
  pointwise

/-- The merged reciprocal deviation of one row. -/
theorem pay546_at (v0 : EReal) (v3 : Vec Ideal S128x128 .f32) (v11 v20 : Vec Ideal S1x1x128 .f32) (s : Fin 128) :
    (k0_pay546 (F := Ideal) v0 v3 v11 v20 (ix2 0 s) : EReal)
      = Ideal.rsqrt (Ideal.div ((v3 (ix2 s 1) : EReal) + v20 (ix3 0 0 s) + ((v11 (ix3 0 0 s) : EReal) - v3 (ix2 s 0)) * ((v11 (ix3 0 0 s) : EReal) - v3 (ix2 s 0))
          * Ideal.div (Spec.lit 1176502272#32 * v0) (Spec.lit 1176502272#32 + v0)) (Spec.lit 1176502272#32 + v0) + Spec.lit 925353388#32) := by
  unfold k0_pay546 k0_pay544 k0_pay543 k0_pay542 k0_pay539
  pointwise

/-- The first column of the transposed statistics holds the means. -/
theorem pay551_mean (r1 r2 : FVec Ideal S1x128 .f32) (s : Fin 128) : (k0_pay551 r1 r2 (ix2 s 0) : EReal) = r1 (ix2 0 s) := by
  unfold k0_pay551
  pointwise

/-- The second column of the transposed statistics holds the reciprocal deviations. -/
theorem pay551_rstd (r1 r2 : FVec Ideal S1x128 .f32) (s : Fin 128) : (k0_pay551 r1 r2 (ix2 s 1) : EReal) = r2 (ix2 0 s) := by
  unfold k0_pay551
  pointwise
  rfl

/-- A selection on the equality of two integers is an if on it. -/
theorem select_eq (x y : BitVec 32) (a b : EReal) : Scalar.select (IntOp.cmpi .eq x y) a b = if x = y then a else b := by
  unfold Scalar.select IntOp.cmpi
  by_cases h : x = y
  · subst h; simp
  · rw [if_neg h, if_neg]
    rw [beq_eq_false_iff_ne.2 h]
    exact (by decide : ¬ BitVec.ofBool false = 1#1)

/-- The means are changed in the row of the current batch index alone. -/
theorem pay549_at (a0 : BitVec 32) (r1 : FVec Ideal S1x128 .f32) (old : Vec Ideal S3x128 .f32) (b : Fin 3) (s : Fin 128) :
    (k0_pay549 a0 r1 old (ix2 b s) : EReal) = if BitVec.ofNat 32 b.val = a0 then (r1 (ix2 0 s) : EReal) else old (ix2 b s) := by
  unfold k0_pay549
  pointwise
  exact select_eq _ _ _ _

/-- The reciprocal deviations are changed in the row of the current batch index alone. -/
theorem pay550_at (a0 : BitVec 32) (r1 : FVec Ideal S1x128 .f32) (old : Vec Ideal S3x128 .f32) (b : Fin 3) (s : Fin 128) :
    (k0_pay550 a0 r1 old (ix2 b s) : EReal) = if BitVec.ofNat 32 b.val = a0 then (r1 (ix2 0 s) : EReal) else old (ix2 b s) := by
  unfold k0_pay550
  pointwise
  exact select_eq _ _ _ _

/-! ## The second loop -/

/-- A shift by 23, which is less than the width. -/
theorem shl23 (a : BitVec 32) : IntOp.shli .vector a 23#32 = a <<< 23#32 := by
  unfold IntOp.shli
  simp

/-- The normalised value of one element. -/
theorem pay55_at (mu rs : Vec Ideal S32x1 .f32) (x : Vec Ideal S1x32x128 .bf16) (g b : Vec Ideal S1x128 .f32) (r : Fin 32) (l : Fin 128) :
    (k0_pay55 mu rs x g b (ix2 r l) : EReal)
      = ((x (ix3 0 r l) : EReal) - mu (ix2 r 0)) * rs (ix2 r 0) * g (ix2 0 l) + b (ix2 0 l) := by
  unfold k0_pay55
  pointwise

/-- The stored column holds the largest magnitude of each row of a block. -/
theorem pay57_at (mu rs : Vec Ideal S32x1 .f32) (x : Vec Ideal S1x32x128 .bf16) (g b : Vec Ideal S1x128 .f32) (r : Fin 32) :
    (k0_pay57 mu rs x g b (ix2 r 0) : EReal) = Finset.univ.fold max (Spec.lit 4286578688#32) fun l : Fin 128 =>
      max (k0_pay55 mu rs x g b (ix2 r l) : EReal) (-(k0_pay55 mu rs x g b (ix2 r l) : EReal)) := by
  unfold k0_pay57 k0_pay56
  generalize k0_pay55 mu rs x g b = y
  pointwise
  rfl

/-- The largest magnitude of a row of a block. -/
theorem pay56_at (mu rs : Vec Ideal S32x1 .f32) (x : Vec Ideal S1x32x128 .bf16) (g b : Vec Ideal S1x128 .f32) (r : Fin 32) :
    (k0_pay56 mu rs x g b (ix2 r 0) : EReal) = Finset.univ.fold max (Spec.lit 4286578688#32) fun l : Fin 128 =>
      max (k0_pay55 mu rs x g b (ix2 r l) : EReal) (-(k0_pay55 mu rs x g b (ix2 r l) : EReal)) := by
  unfold k0_pay56
  generalize k0_pay55 mu rs x g b = y
  pointwise
  rfl

/-- The comparison of the scaled magnitude with a threshold. -/
theorem pay59_at (mu rs : Vec Ideal S32x1 .f32) (x : Vec Ideal S1x32x128 .bf16) (g b : Vec Ideal S1x128 .f32) (r : Fin 32) (i : Fin 246) :
    k0_pay59 mu rs x g b (ix2 r i) = Ideal.cmp .ole (Spec.thr i.val) ((k0_pay56 mu rs x g b (ix2 r 0) : EReal) * Spec.lit 991054117#32) := by
  unfold k0_pay59 Spec.thr
  generalize k0_pay56 mu rs x g b = y
  pointwise
  rw [shl23]
  rfl

/-- The comparison of that magnitude with 0. -/
theorem pay58_at (mu rs : Vec Ideal S32x1 .f32) (x : Vec Ideal S1x32x128 .bf16) (g b : Vec Ideal S1x128 .f32) (r : Fin 32) :
    k0_pay58 mu rs x g b (ix2 r 0) = Ideal.cmp .oeq (k0_pay56 mu rs x g b (ix2 r 0) : EReal) (Spec.lit 0#32) := by
  unfold k0_pay58
  generalize k0_pay56 mu rs x g b = y
  pointwise

/-- The code of one element. -/
theorem pay60_at (y : FVec Ideal S32x128 .f32) (z : IVec S32x1 1) (t : IVec S32x246 1) (r : Fin 32) (l : Fin 128) :
    (k0_pay60 y z t (Scalar.ofBits .f32 0x3F800000#32) (ix3 0 r l) : EReal)
      = min (Spec.lit 1138753536#32) (max (Spec.lit 3286237184#32) ((y (ix2 r l) : EReal)
        * Ideal.ofBits .f32 ((127#32 - Scalar.select (z (ix2 r 0)) 0#32 (Ideal.fptosi 32
            (∑ i : Fin 246, Scalar.select (t (ix2 r i)) (Spec.lit 1065353216#32) (Spec.lit 0#32)) - 126#32)) <<< 23#32))) := by
  unfold k0_pay60
  pointwise
  simp only [shl23]
  rfl

/-- The scale of one block. -/
theorem pay1_at (z : IVec S80x128 1) (p : FVec Ideal S80x128 .f32) (j : Fin 80) (s : Fin 128) :
    (k0_pay1 z p (ix3 0 j s) : EReal)
      = Ideal.ofBits .f32 ((127#32 + Scalar.select (z (ix2 j s)) 0#32 (Ideal.fptosi 32 (Spec.count (p (ix2 j s))) - 126#32)) <<< 23#32) := by
  unfold k0_pay1 Spec.count Spec.thr
  pointwise
  simp only [shl23]
  rfl

/-- The comparison of a stored magnitude with 0. -/
theorem pay554_at (v : Vec Ideal S128x128 .f32) (j : Fin 80) (s : Fin 128) :
    k0_pay554 v (ix2 j s) = Ideal.cmp .oeq (v (ix2 s ⟨j.val, by omega⟩) : EReal) (Spec.lit 0#32) := by
  unfold k0_pay554 k0_pay553
  pointwise

/-- A stored magnitude times 1 / 448. -/
theorem pay555_at (v : Vec Ideal S128x128 .f32) (j : Fin 80) (s : Fin 128) :
    (k0_pay555 v (ix2 j s) : EReal) = (v (ix2 s ⟨j.val, by omega⟩) : EReal) * Spec.lit 991054117#32 := by
  unfold k0_pay555 k0_pay553
  pointwise

/-! ## A block of a row -/

/-- The largest magnitude of a block is not negative. -/
theorem amax_nonneg (R : Spec.Row) (j : Fin 80) : 0 ≤ R.amax j := by
  unfold Spec.Row.amax
  rw [Finset.le_fold_max]
  refine Or.inr ⟨0, Finset.mem_univ _, ?_⟩
  rcases le_total 0 (R.y (Spec.Row.col j 0)) with h | h
  · exact le_max_of_le_left h
  · exact le_max_of_le_right (EReal.neg_nonneg.2 h)

section

variable (R : Spec.Row) (mu rs : Vec Ideal S32x1 .f32) (x : Vec Ideal S1x32x128 .bf16) (g b : Vec Ideal S1x128 .f32) (r : Fin 32) (j : Fin 80)
  (hmu : (mu (ix2 r 0) : EReal) = R.mean) (hrs : (rs (ix2 r 0) : EReal) = R.rstd)
  (hx : ∀ l, (x (ix3 0 r l) : EReal) = R.x (Spec.Row.col j l)) (hg : ∀ l, (g (ix2 0 l) : EReal) = R.g (Spec.Row.col j l))
  (hb : ∀ l, (b (ix2 0 l) : EReal) = R.b (Spec.Row.col j l))

include hmu hrs hx hg hb

/-- An element of the normalised block is the row's. -/
theorem y_row (l : Fin 128) : (k0_pay55 mu rs x g b (ix2 r l) : EReal) = R.y (Spec.Row.col j l) := by
  rw [pay55_at, hmu, hrs, hx, hg, hb]
  rfl

/-- The largest magnitude the kernel keeps for a block is the row's. -/
theorem amax_row : (k0_pay57 mu rs x g b (ix2 r 0) : EReal) = R.amax j := by
  rw [pay57_at]
  unfold Spec.Row.amax
  congr 1
  funext l
  rw [y_row R mu rs x g b r j hmu hrs hx hg hb]

/-- A code the kernel writes is the row's. -/
theorem code_row (l : Fin 128) : (codesBlk mu rs x g b (ix3 0 r l) : EReal) = R.code j l := by
  have ha : (k0_pay56 mu rs x g b (ix2 r 0) : EReal) = R.amax j :=
    (pay56_at mu rs x g b r).trans ((pay57_at mu rs x g b r).symm.trans (amax_row R mu rs x g b r j hmu hrs hx hg hb))
  unfold codesBlk
  rw [pay60_at, y_row R mu rs x g b r j hmu hrs hx hg hb]
  simp only [pay59_at, pay58_at, ha]
  unfold Spec.Row.code Spec.Row.inv
  rw [← Spec.inv_bits _ (amax_nonneg R j)]
  rfl

end

/-- A scale the kernel writes is the row's. -/
theorem scale_row (R : Spec.Row) (v : Vec Ideal S128x128 .f32) (j : Fin 80) (s : Fin 128)
    (h : (v (ix2 s ⟨j.val, by omega⟩) : EReal) = R.amax j) : (k0_pay1 (k0_pay554 v) (k0_pay555 v) (ix3 0 j s) : EReal) = R.scale j := by
  rw [pay1_at, pay554_at, pay555_at, h]
  unfold Spec.Row.scale
  rw [← Spec.scale_bits _ (amax_nonneg R j)]
  rfl

/-- The mean the kernel merges is the row's. -/
theorem mean_row (R : Spec.Row) (v3 : Vec Ideal S128x128 .f32) (v11 : Vec Ideal S1x1x128 .f32) (s : Fin 128)
    (h0 : (v3 (ix2 s 0) : EReal) = R.meanLoc) (h1 : (v11 (ix3 0 0 s) : EReal) = R.pm) :
    (k0_pay545 (F := Ideal) R.cnt v3 v11 (ix2 0 s) : EReal) = R.mean := by
  rw [pay545_at, h0, h1]
  rfl

/-- The reciprocal deviation the kernel merges is the row's. -/
theorem rstd_row (R : Spec.Row) (v3 : Vec Ideal S128x128 .f32) (v11 v20 : Vec Ideal S1x1x128 .f32) (s : Fin 128)
    (h0 : (v3 (ix2 s 0) : EReal) = R.meanLoc) (h1 : (v11 (ix3 0 0 s) : EReal) = R.pm) (h2 : (v3 (ix2 s 1) : EReal) = R.m2Loc)
    (h3 : (v20 (ix3 0 0 s) : EReal) = R.pv) :
    (k0_pay546 (F := Ideal) R.cnt v3 v11 v20 (ix2 0 s) : EReal) = R.rstd := by
  rw [pay546_at, h0, h1, h2, h3]
  rfl

end Cert.KernelIdeal.Hand

end
-- ==== Proof.Hand.LoopValues.lean ====
/-
  What the two loops leave in the scratch buffers and in the block of codes, read at an index.
-/
module

public import proofs.«01_k».proof.Proof.Hand.Values

@[expose] public section

set_option maxRecDepth 16384

noncomputable section

namespace Cert.KernelIdeal.Hand

open Cert.KernelIdeal Cert.KernelIdeal.Gen
open Idealize.ShloMosaic Idealize.ShloMosaic.TcCoe

/-- A load through a rectangle of unit strides, at an index. -/
theorem readAt_unit_at {κ : Kind} {sp : Space} {s : Shape} {e : EltTy} (v : View sig κ sp s e) (f : v.ty.Contents (Elt Ideal))
    {off off' size : Fin s.rank → ℕ} (inb : ∀ a, off a + size a ≤ s.size a) (x : (Rect.unit off size inb).shape.Idx) (y : s.Idx)
    (heq : off = off') (h : ∀ a, (y a).val = off' a + (x a).val) :
    v.readAt (Elt Ideal) (Rect.unit off size inb).toLoadRect f x = v.read (Elt Ideal) f y := by
  subst heq
  show v.read (Elt Ideal) f ((Rect.unit off size inb).emb x) = _
  refine congrArg _ (funext fun a => Fin.ext ?_)
  show off a + 1 * (x a).val = (y a).val
  rw [h a, Nat.one_mul]

/-- The first row of a chunk. -/
theorem rowOff_eq : ∀ n : Fin 4, rowOff n.val = 32 * n.val := by decide +kernel
/-- Where the first loop writes its means. -/
theorem off81_eq : ∀ k : Fin k0_t1_loop.trips, k0_off81 k = ![32 * k.val, 0] := by decide +kernel
/-- Where the first loop writes its sums of squares. -/
theorem off82_eq : ∀ k : Fin k0_t1_loop.trips, k0_off82 k = ![32 * k.val, 1] := by decide +kernel
/-- Where the second loop reads the means. -/
theorem off85_eq : ∀ k : Fin k0_t2_loop.trips, k0_off85 k = ![32 * k.val, 0] := by decide +kernel
/-- Where the second loop reads the reciprocal deviations. -/
theorem off86_eq : ∀ k : Fin k0_t2_loop.trips, k0_off86 k = ![32 * k.val, 1] := by decide +kernel
/-- The first loop has four rounds. -/
theorem trips1 : k0_t1_loop.trips = 4 := by decide +kernel
/-- The second loop has four rounds. -/
theorem trips2 : k0_t2_loop.trips = 4 := by decide +kernel

section

variable (c : Dev nD) (i : grid0.Coords)
  (arg2 : Memref sig .tc .smem S1 .f32) (harg2 : arg2.IsWhole)
  (arg3 : Memref sig .tc .vmem S1x128x10240 .bf16) (harg3 : arg3.IsWhole)
  (arg4 : Memref sig .tc .vmem S3x1x640 .f32) (harg4 : arg4.IsWhole)
  (arg5 : Memref sig .tc .vmem S3x1x640 .f32) (harg5 : arg5.IsWhole)
  (arg6 : Memref sig .tc .vmem S1x10240 .f32) (harg6 : arg6.IsWhole)
  (arg7 : Memref sig .tc .vmem S1x10240 .f32) (harg7 : arg7.IsWhole)
  (arg8 : Memref sig .tc .vmem S1x128x10240 .fp8e4m3) (harg8 : arg8.IsWhole)
  (arg9 : Memref sig .tc .vmem S1x80x128 .f32) (harg9 : arg9.IsWhole)
  (arg10 : Memref sig .tc .vmem S3x640 .f32) (harg10 : arg10.IsWhole)
  (arg11 : Memref sig .tc .vmem S3x640 .f32) (harg11 : arg11.IsWhole)
  (arg12 : Memref sig .tc .vmem S128x128 .f32) (harg12 : arg12.IsWhole)
  (arg13 : Memref sig .tc .vmem S128x128 .f32) (harg13 : arg13.IsWhole)
  (X3 : BufTy.Contents (Elt Ideal) arg3.view.ty) (R : Fin 128 → Spec.Row)
  (hx : ∀ s k, (View.read (Elt Ideal) arg3.view X3 (ix3 0 s k) : EReal) = (R s).x k)

/-- A block of the activations holds the rows' elements. -/
theorem blk_row (n : Fin 4) (j : Fin 80) (r : Fin 32) (l : Fin 128) (s : Fin 128) (hs : s.val = 32 * n.val + r.val)
    (hx : ∀ s k, (View.read (Elt Ideal) arg3.view X3 (ix3 0 s k) : EReal) = (R s).x k) :
    (blk arg3 X3 n j (ix3 0 r l) : EReal) = (R s).x (Spec.Row.col j l) := by
  rw [← hx]
  refine readAt_unit_at arg3.view X3 _ _ _ rfl fun a => ?_
  match a with
  | ⟨0, _⟩ => rfl
  | ⟨1, _⟩ => show s.val = rowOff n.val + r.val; rw [rowOff_eq, hs]
  | ⟨2, _⟩ => show j.val * 128 + l.val = 128 * j.val + l.val; omega

include hx in
/-- After `n` trips of the first loop the rows below `32 * n` hold their means in column 0 and their sums of squared
    deviations in column 1. -/
theorem loop1_at (f : BufTy.Contents (Elt Ideal) arg12.view.ty) : ∀ (n : ℕ) (hn : n ≤ 4) (s : Fin 128) (hs : s.val < 32 * n),
    (View.read (Elt Ideal) arg12.view (View.writes arg12.view (Elt Ideal) f
        (pb_k0_t1 Variants.none c none i arg2 harg2 arg3 harg3 arg4 harg4 arg5 harg5 arg6 harg6 arg7 harg7 arg8 harg8 arg9 harg9 arg10 harg10 arg11 harg11 arg12 harg12 arg13 harg13 (Scalar.ofBits .f32 0x46200000#32) X3 n)) (ix2 s 0) : EReal) = (R s).meanLoc
    ∧ (View.read (Elt Ideal) arg12.view (View.writes arg12.view (Elt Ideal) f
        (pb_k0_t1 Variants.none c none i arg2 harg2 arg3 harg3 arg4 harg4 arg5 harg5 arg6 harg6 arg7 harg7 arg8 harg8 arg9 harg9 arg10 harg10 arg11 harg11 arg12 harg12 arg13 harg13 (Scalar.ofBits .f32 0x46200000#32) X3 n)) (ix2 s 1) : EReal) = (R s).m2Loc
  | 0, _, s, hs => absurd hs (by omega)
  | n + 1, hn, s, hs => by
    have hk : n < k0_t1_loop.trips := by rw [trips1]; omega
    rw [pb_k0_t1_succ Variants.none c none i arg2 harg2 arg3 harg3 arg4 harg4 arg5 harg5 arg6 harg6 arg7 harg7 arg8 harg8 arg9 harg9 arg10 harg10 arg11 harg11 arg12 harg12 arg13 harg13 (Scalar.ofBits .f32 0x46200000#32) X3 ⟨n, hk⟩,
      trip1_pieces c i arg2 harg2 arg3 harg3 arg4 harg4 arg5 harg5 arg6 harg6 arg7 harg7 arg8 harg8 arg9 harg9 arg10 harg10 arg11 harg11 arg12 harg12 arg13 harg13 (Scalar.ofBits .f32 0x46200000#32) X3 ⟨n, hk⟩ ⟨n, by omega⟩ rfl, pay540_at, pay541_at]
    simp only [List.cons_append, List.nil_append]
    by_cases h : s.val < 32 * n
    · have ih := loop1_at f n (by omega) s h
      constructor
      · rw [View.read_writes_cons_unit_of_not_mem _ _ _ _ _ _ (off82_eq ⟨n, hk⟩) 0 (Or.inl h),
          View.read_writes_cons_unit_of_not_mem _ _ _ _ _ _ (off81_eq ⟨n, hk⟩) 0 (Or.inl h)]
        exact ih.1
      · rw [View.read_writes_cons_unit_of_not_mem _ _ _ _ _ _ (off82_eq ⟨n, hk⟩) 0 (Or.inl h),
          View.read_writes_cons_unit_of_not_mem _ _ _ _ _ _ (off81_eq ⟨n, hk⟩) 0 (Or.inl h)]
        exact ih.2
    · have hL : ∀ j l, (blk arg3 X3 ⟨n, by omega⟩ j (ix3 0 (⟨s.val - 32 * n, by omega⟩ : Fin 32) l) : EReal) = (R s).x (Spec.Row.col j l) :=
        fun j l => blk_row arg3 X3 R _ j _ l s (by show s.val = 32 * n + (s.val - 32 * n); omega) hx
      constructor
      · rw [View.read_writes_cons_unit_of_not_mem _ _ _ _ _ _ (off82_eq ⟨n, hk⟩) 1 (Or.inl (by show 0 < 1; omega)),
          View.read_writes_cons_unit_of_mem _ _ _ _ _ _ (ix2 (⟨s.val - 32 * n, by omega⟩ : Fin 32) 0) (off81_eq ⟨n, hk⟩) (fun a => by
            match a with
            | ⟨0, _⟩ => show s.val = 32 * n + (s.val - 32 * n); omega
            | ⟨1, _⟩ => rfl)]
        exact meanCol_at (R s) _ _ hL
      · rw [View.read_writes_cons_unit_of_mem _ _ _ _ _ _ (ix2 (⟨s.val - 32 * n, by omega⟩ : Fin 32) 0) (off82_eq ⟨n, hk⟩) (fun a => by
            match a with
            | ⟨0, _⟩ => show s.val = 32 * n + (s.val - 32 * n); omega
            | ⟨1, _⟩ => rfl)]
        exact m2Col_at (R s) _ _ hL

/-- A block of a row over the channels. -/
theorem rowBlk_at {sp : Space} (q : Memref sig .tc sp S1x10240 .f32) (X : BufTy.Contents (Elt Ideal) q.view.ty) (j : Fin 80) (l : Fin 128) :
    (rowBlk q X j (ix2 0 l) : EReal) = View.read (Elt Ideal) q.view X (ix2 0 (Spec.Row.col j l)) := by
  refine readAt_unit_at q.view X _ _ _ rfl fun a => ?_
  match a with
  | ⟨0, _⟩ => rfl
  | ⟨1, _⟩ => show j.val * 128 + l.val = 128 * j.val + l.val; omega

/-- The column of means that a round of the second loop reads. -/
theorem muCol_at (X : BufTy.Contents (Elt Ideal) arg12.view.ty) (k : Fin k0_t2_loop.trips) (r : Fin 32) (s : Fin 128)
    (hs : s.val = 32 * k.val + r.val) : (muCol arg12 X k (ix2 r 0) : EReal) = View.read (Elt Ideal) arg12.view X (ix2 s 0) := by
  refine readAt_unit_at arg12.view X _ _ _ (off85_eq k) fun a => ?_
  match a with
  | ⟨0, _⟩ => exact hs
  | ⟨1, _⟩ => rfl

/-- The column of reciprocal deviations that a round of the second loop reads. -/
theorem rsCol_at (X : BufTy.Contents (Elt Ideal) arg12.view.ty) (k : Fin k0_t2_loop.trips) (r : Fin 32) (s : Fin 128)
    (hs : s.val = 32 * k.val + r.val) : (rsCol arg12 X k (ix2 r 0) : EReal) = View.read (Elt Ideal) arg12.view X (ix2 s 1) := by
  refine readAt_unit_at arg12.view X _ _ _ (off86_eq k) fun a => ?_
  match a with
  | ⟨0, _⟩ => exact hs
  | ⟨1, _⟩ => rfl

variable (X6 : BufTy.Contents (Elt Ideal) arg6.view.ty) (X7 : BufTy.Contents (Elt Ideal) arg7.view.ty) (X12 : BufTy.Contents (Elt Ideal) arg12.view.ty)
  (a0 v8 : BitVec 32) (v17 v33 : FVec Ideal S1x128 .f32)
  (hg : ∀ s k, (View.read (Elt Ideal) arg6.view X6 (ix2 0 k) : EReal) = (R s).g k)
  (hb : ∀ s k, (View.read (Elt Ideal) arg7.view X7 (ix2 0 k) : EReal) = (R s).b k)
  (hmu : ∀ s, (View.read (Elt Ideal) arg12.view X12 (ix2 s 0) : EReal) = (R s).mean)
  (hrs : ∀ s, (View.read (Elt Ideal) arg12.view X12 (ix2 s 1) : EReal) = (R s).rstd)

include hx hg hb hmu hrs

/-- After `n` trips of the second loop the rows below `32 * n` hold their codes. -/
theorem loop2_codes (f : BufTy.Contents (Elt Ideal) arg8.view.ty) : ∀ (n : ℕ) (hn : n ≤ 4) (s : Fin 128) (hs : s.val < 32 * n) (j : Fin 80) (l : Fin 128),
    (View.read (Elt Ideal) arg8.view (View.writes arg8.view (Elt Ideal) f
        (pb_k0_t2 Variants.none c none i arg2 harg2 arg3 harg3 arg4 harg4 arg5 harg5 arg6 harg6 arg7 harg7 arg8 harg8 arg9 harg9 arg10 harg10 arg11 harg11 arg12 harg12 arg13 harg13 a0 v8 v17 v33 X3 X6 X7 X12 n).1) (ix3 0 s (Spec.Row.col j l)) : EReal) = (R s).code j l
  | 0, _, s, hs, _, _ => absurd hs (by omega)
  | n + 1, hn, s, hs, j, l => by
    have hk : n < k0_t2_loop.trips := by rw [trips2]; omega
    rw [pb_k0_t2_succ Variants.none c none i arg2 harg2 arg3 harg3 arg4 harg4 arg5 harg5 arg6 harg6 arg7 harg7 arg8 harg8 arg9 harg9 arg10 harg10 arg11 harg11 arg12 harg12 arg13 harg13 a0 v8 v17 v33 X3 X6 X7 X12 ⟨n, hk⟩]
    show (View.read (Elt Ideal) arg8.view (View.writes arg8.view (Elt Ideal) f (_ ++ _)) _ : EReal) = _
    rw [trip2_codes c i arg2 harg2 arg3 harg3 arg4 harg4 arg5 harg5 arg6 harg6 arg7 harg7 arg8 harg8 arg9 harg9 arg10 harg10 arg11 harg11 arg12 harg12 arg13 harg13 a0 v8 v17 v33 X3 X6 X7 X12 ⟨n, hk⟩ ⟨n, by omega⟩ rfl, View.writes_append]
    by_cases h : s.val < 32 * n
    · rw [View.read_tilePieces_miss _ _ _ _ _ _ _ _ _ 1 fun i' _ => Or.inl (by
        show s.val < rowOff n
        rw [rowOff_eq ⟨n, by omega⟩]
        exact h)]
      exact loop2_codes f n (by omega) s h j l
    · have hr : s.val = 32 * n + (⟨s.val - 32 * n, by omega⟩ : Fin 32).val := by show s.val = 32 * n + (s.val - 32 * n); omega
      rw [View.read_tilePieces _ _ _ _ _ _ 80 (le_refl _) _ j j.isLt (ix3 0 (⟨s.val - 32 * n, by omega⟩ : Fin 32) l) (fun a => by
        match a with
        | ⟨0, _⟩ => rfl
        | ⟨1, _⟩ => show s.val = rowOff n + (s.val - 32 * n); rw [rowOff_eq ⟨n, by omega⟩]; omega
        | ⟨2, _⟩ => show j.val * 128 + l.val = 128 * j.val + l.val; omega) 2 (fun i' hi' => by
        have : i'.val ≠ j.val := fun h => hi' (Fin.ext h)
        show j.val * 128 + l.val < 128 * i'.val ∨ 128 * i'.val + 128 ≤ j.val * 128 + l.val
        omega)]
      exact code_row (R s) _ _ _ _ _ _ j ((muCol_at arg12 X12 ⟨n, hk⟩ _ s hr).trans (hmu s)) ((rsCol_at arg12 X12 ⟨n, hk⟩ _ s hr).trans (hrs s))
        (fun l => blk_row arg3 X3 R ⟨n, by omega⟩ j _ l s hr hx) (fun l => (rowBlk_at arg6 X6 j l).trans (hg s _))
        (fun l => (rowBlk_at arg7 X7 j l).trans (hb s _)) l

/-- After `n` trips of the second loop the rows below `32 * n` hold their blocks' largest magnitudes. -/
theorem loop2_amax (f : BufTy.Contents (Elt Ideal) arg13.view.ty) : ∀ (n : ℕ) (hn : n ≤ 4) (s : Fin 128) (hs : s.val < 32 * n) (j : Fin 80),
    (View.read (Elt Ideal) arg13.view (View.writes arg13.view (Elt Ideal) f
        (pb_k0_t2 Variants.none c none i arg2 harg2 arg3 harg3 arg4 harg4 arg5 harg5 arg6 harg6 arg7 harg7 arg8 harg8 arg9 harg9 arg10 harg10 arg11 harg11 arg12 harg12 arg13 harg13 a0 v8 v17 v33 X3 X6 X7 X12 n).2) (ix2 s ⟨j.val, by omega⟩) : EReal) = (R s).amax j
  | 0, _, s, hs, _ => absurd hs (by omega)
  | n + 1, hn, s, hs, j => by
    have hk : n < k0_t2_loop.trips := by rw [trips2]; omega
    rw [pb_k0_t2_succ Variants.none c none i arg2 harg2 arg3 harg3 arg4 harg4 arg5 harg5 arg6 harg6 arg7 harg7 arg8 harg8 arg9 harg9 arg10 harg10 arg11 harg11 arg12 harg12 arg13 harg13 a0 v8 v17 v33 X3 X6 X7 X12 ⟨n, hk⟩]
    show (View.read (Elt Ideal) arg13.view (View.writes arg13.view (Elt Ideal) f (_ ++ _)) _ : EReal) = _
    rw [trip2_amax c i arg2 harg2 arg3 harg3 arg4 harg4 arg5 harg5 arg6 harg6 arg7 harg7 arg8 harg8 arg9 harg9 arg10 harg10 arg11 harg11 arg12 harg12 arg13 harg13 a0 v8 v17 v33 X3 X6 X7 X12 ⟨n, hk⟩ ⟨n, by omega⟩ rfl, View.writes_append]
    by_cases h : s.val < 32 * n
    · rw [View.read_tilePieces_miss _ _ _ _ _ _ _ _ _ 0 fun i' _ => Or.inl (by
        show s.val < rowOff n
        rw [rowOff_eq ⟨n, by omega⟩]
        exact h)]
      exact loop2_amax f n (by omega) s h j
    · have hr : s.val = 32 * n + (⟨s.val - 32 * n, by omega⟩ : Fin 32).val := by show s.val = 32 * n + (s.val - 32 * n); omega
      rw [View.read_tilePieces _ _ _ _ _ _ 80 (le_refl _) _ j j.isLt (ix2 (⟨s.val - 32 * n, by omega⟩ : Fin 32) 0) (fun a => by
        match a with
        | ⟨0, _⟩ => show s.val = rowOff n + (s.val - 32 * n); rw [rowOff_eq ⟨n, by omega⟩]; omega
        | ⟨1, _⟩ => rfl) 1 (fun i' hi' => by
        have : i'.val ≠ j.val := fun h => hi' (Fin.ext h)
        show j.val < i'.val ∨ i'.val + 1 ≤ j.val
        omega)]
      exact amax_row (R s) _ _ _ _ _ _ j ((muCol_at arg12 X12 ⟨n, hk⟩ _ s hr).trans (hmu s)) ((rsCol_at arg12 X12 ⟨n, hk⟩ _ s hr).trans (hrs s))
        (fun l => blk_row arg3 X3 R ⟨n, by omega⟩ j _ l s hr hx) (fun l => (rowBlk_at arg6 X6 j l).trans (hg s _))
        (fun l => (rowBlk_at arg7 X7 j l).trans (hb s _))

end

end Cert.KernelIdeal.Hand

end
-- ==== Proof.Hand.IdealPieces.lean ====
/-
  The rows of a grid point, and the values of a grid point's run piece by piece, in extended reals.
-/
module

public import proofs.«01_k».proof.Proof.Hand.LoopValues

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The rows of a grid point -/

/-- The batch element of a grid point. -/
def batch (i : grid0.Coords) : Fin 3 := ⟨(i 0).val, (i 0).isLt⟩
/-- The first row of a grid point's 128. -/
def row0 (i : grid0.Coords) : ℕ := 128 * (i 1).val

/-- A row of a tile is a row of the sequence. -/
theorem row0_le (i : grid0.Coords) (s : Fin 128) : row0 i + s.val < 640 := by
  have h : (i 1).val < 5 := (i 1).isLt
  unfold row0
  omega

/-- Row `s` of a grid point, of what the windows' blocks hold. -/
def rowsAt (i : grid0.Coords) (x0 : Vec Ideal S1 .f32) (x1 : Vec Ideal S1x128x10240 .bf16) (x2 x3 : Vec Ideal S3x1x640 .f32)
    (x4 x5 : Vec Ideal S1x10240 .f32) (s : Fin 128) : Spec.Row where
  x k := x1 (ix3 0 s k)
  cnt := x0 (ix1 0)
  pm := x2 (ix3 (batch i) 0 ⟨row0 i + s.val, row0_le i s⟩)
  pv := x3 (ix3 (batch i) 0 ⟨row0 i + s.val, row0_le i s⟩)
  g k := x4 (ix2 0 k)
  b k := x5 (ix2 0 k)

/-- A block of codes. -/
def codesOf (R : Fin 128 → Spec.Row) : Vec Ideal S1x128x10240 .fp8e4m3 := fun y =>
  (R (y 1)).code ⟨(y 2).val / 128, by have h : (y 2).val < 10240 := (y 2).isLt; omega⟩ ⟨(y 2).val % 128, Nat.mod_lt _ (by omega)⟩

/-- A block of scales. -/
def scalesOf (R : Fin 128 → Spec.Row) : Vec Ideal S1x80x128 .f32 := fun y => (R (y 2)).scale (y 1)

/-- One value per row put into a point's batch element and rows, the rest zero at the first point and kept after it. -/
def stepOf (i : grid0.Coords) (v : Fin 128 → EReal) (old : Vec Ideal S3x640 .f32) : Vec Ideal S3x640 .f32 := fun y =>
  if (y 0).val = (i 0).val ∧ (y 1).val / 128 = (i 1).val then v ⟨(y 1).val % 128, Nat.mod_lt _ (by omega)⟩
  else if (i 0).val = 0 ∧ (i 1).val = 0 then (0 : EReal) else old y

/-- The block of means after a point. -/
def meanStep (i : grid0.Coords) (R : Fin 128 → Spec.Row) (old : Vec Ideal S3x640 .f32) : Vec Ideal S3x640 .f32 :=
  stepOf i (fun s => (R s).mean) old
/-- The block of reciprocal deviations after a point. -/
def rstdStep (i : grid0.Coords) (R : Fin 128 → Spec.Row) (old : Vec Ideal S3x640 .f32) : Vec Ideal S3x640 .f32 :=
  stepOf i (fun s => (R s).rstd) old

/-! ## The pieces of a point's run -/

/-- Where a step reads the data of the peer. -/
theorem off83_eq : ∀ i : grid0.Coords, k0_off83 i = ![(i 0).val, 0, 128 * (i 1).val] := by decide +kernel
/-- Where a step writes its statistics. -/
theorem off84_eq : ∀ i : grid0.Coords, k0_off84 i = ![0, 128 * (i 1).val] := by decide +kernel
/-- The zeroing's condition holds at the first point alone. -/
theorem first_iff : ∀ i : grid0.Coords,
    (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
      ↔ ((i 0).val = 0 ∧ (i 1).val = 0) := by decide +kernel
/-- Batch elements as words are told apart as numbers are. -/
theorem batch_eq : ∀ (b : Fin 3) (i : grid0.Coords), (BitVec.ofNat 32 b.val = BitVec.ofNat 32 (i 0).val) ↔ b.val = (i 0).val := by decide +kernel

/-- The first step fills the means with 0. -/
theorem pay547_at (y : S3x640.Idx) : (k0_pay547 (F := Ideal) y : EReal) = 0 := by
  unfold k0_pay547
  exact Spec.lit_zero
/-- The first step fills the reciprocal deviations with 0. -/
theorem pay548_at (y : S3x640.Idx) : (k0_pay548 (F := Ideal) y : EReal) = 0 := by
  unfold k0_pay548
  exact Spec.lit_zero

/-- A block zeroed at the first point and kept at the others. -/
theorem zeroed_at (q : Memref sig .tc .vmem S3x640 .f32) (f : BufTy.Contents (Elt Ideal) q.view.ty) (p : BitVec 1) (P : Prop) [Decidable P]
    (hp : p = 1#1 ↔ P) (z : Vec Ideal S3x640 .f32) (hz : ∀ y, (z y : EReal) = 0) (y : S3x640.Idx) :
    (View.read (Elt Ideal) q.view (if hc : p = 1#1 then q.view.writes (Elt Ideal) f [⟨Rect.unit ![0, 0] S3x640.size inb_S3x640_S3x640_0_0, z⟩] else f) y : EReal)
      = if P then 0 else View.read (Elt Ideal) q.view f y := by
  by_cases h : p = 1#1
  · rw [dif_pos h, if_pos (hp.mp h), View.read_writes_cons_unit_of_mem _ _ _ _ _ _ y rfl (fun a => by
      match a with
      | ⟨0, _⟩ => show (y 0).val = 0 + (y 0).val; omega
      | ⟨1, _⟩ => show (y 1).val = 0 + (y 1).val; omega)]
    exact hz y
  · rw [dif_neg h, if_neg (fun h' => h (hp.mpr h'))]

/-- A point's 128 values put into their columns, in the row of the batch element. -/
theorem step_read (i : grid0.Coords) (q : Memref sig .tc .vmem S3x640 .f32) (g : BufTy.Contents (Elt Ideal) q.view.ty) (v : Fin 128 → EReal)
    (old : Vec Ideal S3x640 .f32) (hg : ∀ y, (View.read (Elt Ideal) q.view g y : EReal) = if (i 0).val = 0 ∧ (i 1).val = 0 then 0 else old y)
    (w : Vec Ideal S3x128 .f32)
    (hw : ∀ b s, (w (ix2 b s) : EReal) = if BitVec.ofNat 32 b.val = BitVec.ofNat 32 (i 0).val then v s
      else q.view.readAt (Elt Ideal) (Rect.unit (s := S3x640) (k0_off84 i) S3x128.size (k0_off84_inb i)).toLoadRect g (ix2 b s)) :
    View.read (Elt Ideal) q.view (q.view.writes (Elt Ideal) g [⟨Rect.unit (s := S3x640) (k0_off84 i) S3x128.size (k0_off84_inb i), w⟩]) = stepOf i v old := by
  have hi : (i 1).val < 5 := (i 1).isLt
  funext y
  obtain ⟨b, n, rfl⟩ : ∃ (b : Fin 3) (n : Fin 640), y = ix2 b n := ⟨y 0, y 1, by funext a; match a with | ⟨0, _⟩ => rfl | ⟨1, _⟩ => rfl⟩
  show _ = (if b.val = (i 0).val ∧ n.val / 128 = (i 1).val then v ⟨n.val % 128, _⟩ else if (i 0).val = 0 ∧ (i 1).val = 0 then (0 : EReal) else old (ix2 b n))
  by_cases h : n.val / 128 = (i 1).val
  · have hm : ∀ a : Fin 2, ((ix2 b n : S3x640.Idx) a).val = (![0, 128 * (i 1).val] : Fin 2 → ℕ) a + ((ix2 b (⟨n.val % 128, Nat.mod_lt _ (by omega)⟩ : Fin 128) : S3x128.Idx) a).val := fun a => by
      match a with
      | ⟨0, _⟩ => show b.val = 0 + b.val; omega
      | ⟨1, _⟩ => show n.val = 128 * (i 1).val + n.val % 128; omega
    rw [View.read_writes_cons_unit_of_mem _ _ _ _ _ _ (ix2 b (⟨n.val % 128, Nat.mod_lt _ (by omega)⟩ : Fin 128)) (off84_eq i) hm]
    refine (hw _ _).trans ?_
    by_cases hb : b.val = (i 0).val
    · rw [if_pos ((batch_eq b i).mpr hb), if_pos ⟨hb, h⟩]
    · rw [if_neg (fun h' => hb ((batch_eq b i).mp h')), if_neg (fun h' => hb h'.1)]
      refine Eq.trans ?_ (hg (ix2 b n))
      exact readAt_unit_at q.view g _ _ _ (off84_eq i) hm
  · rw [View.read_writes_cons_unit_of_not_mem _ _ _ _ _ _ (off84_eq i) 1 (by
      show n.val < 128 * (i 1).val ∨ 128 * (i 1).val + 128 ≤ n.val
      omega), if_neg (fun h' => h h'.2)]
    exact hg (ix2 b n)

/-- The point's scales, written whole. -/
theorem scales_read (q : Memref sig .tc .vmem S1x80x128 .f32) (f : BufTy.Contents (Elt Ideal) q.view.ty) (R : Fin 128 → Spec.Row)
    (v : Vec Ideal S128x128 .f32) (hv : ∀ s (j : Fin 80), (v (ix2 s ⟨j.val, by omega⟩) : EReal) = (R s).amax j) :
    View.read (Elt Ideal) q.view (q.view.writes (Elt Ideal) f
      [⟨Rect.unit ![0, 0, 0] S1x80x128.size inb_S1x80x128_S1x80x128_0_0_0, k0_pay1 (k0_pay554 v) (k0_pay555 v)⟩]) = scalesOf R := by
  funext y
  obtain ⟨j, s, rfl⟩ : ∃ (j : Fin 80) (s : Fin 128), y = ix3 0 j s := ⟨y 1, y 2, by
    funext a
    match a with
    | ⟨0, _⟩ => exact Subsingleton.elim (α := Fin 1) _ _
    | ⟨1, _⟩ => rfl
    | ⟨2, _⟩ => rfl⟩
  rw [View.read_writes_cons_unit_of_mem _ _ _ _ _ _ (ix3 0 j s) rfl (fun a => by
    match a with
    | ⟨0, _⟩ => rfl
    | ⟨1, _⟩ => show j.val = 0 + j.val; omega
    | ⟨2, _⟩ => show s.val = 0 + s.val; omega)]
  exact scale_row (R s) v j s (hv s j)

section

variable (c : Dev nD) (i : grid0.Coords)
  (arg2 : Memref sig .tc .smem S1 .f32) (harg2 : arg2.IsWhole)
  (arg3 : Memref sig .tc .vmem S1x128x10240 .bf16) (harg3 : arg3.IsWhole)
  (arg4 : Memref sig .tc .vmem S3x1x640 .f32) (harg4 : arg4.IsWhole)
  (arg5 : Memref sig .tc .vmem S3x1x640 .f32) (harg5 : arg5.IsWhole)
  (arg6 : Memref sig .tc .vmem S1x10240 .f32) (harg6 : arg6.IsWhole)
  (arg7 : Memref sig .tc .vmem S1x10240 .f32) (harg7 : arg7.IsWhole)
  (arg8 : Memref sig .tc .vmem S1x128x10240 .fp8e4m3) (harg8 : arg8.IsWhole)
  (arg9 : Memref sig .tc .vmem S1x80x128 .f32) (harg9 : arg9.IsWhole)
  (arg10 : Memref sig .tc .vmem S3x640 .f32) (harg10 : arg10.IsWhole)
  (arg11 : Memref sig .tc .vmem S3x640 .f32) (harg11 : arg11.IsWhole)
  (arg12 : Memref sig .tc .vmem S128x128 .f32) (harg12 : arg12.IsWhole)
  (arg13 : Memref sig .tc .vmem S128x128 .f32) (harg13 : arg13.IsWhole)
  (f0 : BufTy.Contents (Elt Ideal) arg2.view.ty) (f1 : BufTy.Contents (Elt Ideal) arg3.view.ty)
  (f2 : BufTy.Contents (Elt Ideal) arg4.view.ty) (f3 : BufTy.Contents (Elt Ideal) arg5.view.ty)
  (f10 : BufTy.Contents (Elt Ideal) arg12.view.ty)

/-- The count the kernel reads. -/
def runCnt : EReal := View.readAt (Elt Ideal) arg2.view (Rect.unit ![0] S1.size inb_S1_S1_0).toLoadRect f0 (Shape.Idx.first (s := S1) (by decide))

/-- The scratch after the first loop. -/
def runLoc : Vec Ideal S128x128 .f32 := View.readAt (Elt Ideal) arg12.view (Rect.unit ![0, 0] S128x128.size inb_S128x128_S128x128_0_0).toLoadRect
  (arg12.view.writes (Elt Ideal) f10
    (pb_k0_t1 Variants.none c none i arg2 harg2 arg3 harg3 arg4 harg4 arg5 harg5 arg6 harg6 arg7 harg7 arg8 harg8 arg9 harg9 arg10 harg10 arg11 harg11 arg12 harg12 arg13 harg13 (FloatOps.ofBits FTy.f32 1176502272#32) f1 (Scf.trips k0_t1_loop.lb k0_t1_loop.ub k0_t1_loop.st)))

/-- The merged mean the kernel computes. -/
def runMean : FVec Ideal S1x128 .f32 := k0_pay545 (F := Ideal) (runCnt arg2 f0)
  (runLoc c i arg2 harg2 arg3 harg3 arg4 harg4 arg5 harg5 arg6 harg6 arg7 harg7 arg8 harg8 arg9 harg9 arg10 harg10 arg11 harg11 arg12 harg12 arg13 harg13 f1 f10)
  (View.readAt (Elt Ideal) arg4.view (Rect.unit (s := S3x1x640) (k0_off83 i) S1x1x128.size (k0_off83_inb i)).toLoadRect f2)

/-- The merged reciprocal deviation the kernel computes. -/
def runRstd : FVec Ideal S1x128 .f32 := k0_pay546 (F := Ideal) (runCnt arg2 f0)
  (runLoc c i arg2 harg2 arg3 harg3 arg4 harg4 arg5 harg5 arg6 harg6 arg7 harg7 arg8 harg8 arg9 harg9 arg10 harg10 arg11 harg11 arg12 harg12 arg13 harg13 f1 f10)
  (View.readAt (Elt Ideal) arg4.view (Rect.unit (s := S3x1x640) (k0_off83 i) S1x1x128.size (k0_off83_inb i)).toLoadRect f2)
  (View.readAt (Elt Ideal) arg5.view (Rect.unit (s := S3x1x640) (k0_off83 i) S1x1x128.size (k0_off83_inb i)).toLoadRect f3)

/-- The scratch holding the merged statistics. -/
def runStat : BufTy.Contents (Elt Ideal) arg12.view.ty := arg12.view.writes (Elt Ideal) arg12.view.junk
  (⟨Rect.unit ![0, 0] S128x128.size inb_S128x128_S128x128_0_0, k0_pay551 (runMean c i arg2 harg2 arg3 harg3 arg4 harg4 arg5 harg5 arg6 harg6 arg7 harg7 arg8 harg8 arg9 harg9 arg10 harg10 arg11 harg11 arg12 harg12 arg13 harg13 f0 f1 f2 f10)
      (runRstd c i arg2 harg2 arg3 harg3 arg4 harg4 arg5 harg5 arg6 harg6 arg7 harg7 arg8 harg8 arg9 harg9 arg10 harg10 arg11 harg11 arg12 harg12 arg13 harg13 f0 f1 f2 f3 f10)⟩ ::
    pb_k0_t1 Variants.none c none i arg2 harg2 arg3 harg3 arg4 harg4 arg5 harg5 arg6 harg6 arg7 harg7 arg8 harg8 arg9 harg9 arg10 harg10 arg11 harg11 arg12 harg12 arg13 harg13 (FloatOps.ofBits FTy.f32 1176502272#32) f1 (Scf.trips k0_t1_loop.lb k0_t1_loop.ub k0_t1_loop.st))

variable (R : Fin 128 → Spec.Row)
  (h0 : ∀ s, (View.read (Elt Ideal) arg2.view f0 (ix1 0) : EReal) = (R s).cnt)
  (h1 : ∀ s k, (View.read (Elt Ideal) arg3.view f1 (ix3 0 s k) : EReal) = (R s).x k)
  (h2 : ∀ s, (View.read (Elt Ideal) arg4.view f2 (ix3 (batch i) 0 ⟨row0 i + s.val, row0_le i s⟩) : EReal) = (R s).pm)
  (h3 : ∀ s, (View.read (Elt Ideal) arg5.view f3 (ix3 (batch i) 0 ⟨row0 i + s.val, row0_le i s⟩) : EReal) = (R s).pv)

include h0 in
/-- The count that the body reads is that of every row of the tile. -/
theorem runCnt_eq (s : Fin 128) : runCnt arg2 f0 = (R s).cnt := by
  refine Eq.trans ?_ (h0 s)
  exact readAt_unit_at arg2.view f0 _ _ (ix1 0) rfl fun a => by
    match a with
    | ⟨0, _⟩ => rfl

include h1 in
/-- The local statistics that the first loop leaves for a row. -/
theorem runLoc_at (s : Fin 128) : (runLoc c i arg2 harg2 arg3 harg3 arg4 harg4 arg5 harg5 arg6 harg6 arg7 harg7 arg8 harg8 arg9 harg9 arg10 harg10 arg11 harg11 arg12 harg12 arg13 harg13 f1 f10 (ix2 s 0) : EReal) = (R s).meanLoc
    ∧ (runLoc c i arg2 harg2 arg3 harg3 arg4 harg4 arg5 harg5 arg6 harg6 arg7 harg7 arg8 harg8 arg9 harg9 arg10 harg10 arg11 harg11 arg12 harg12 arg13 harg13 f1 f10 (ix2 s 1) : EReal) = (R s).m2Loc := by
  have H := loop1_at c i arg2 harg2 arg3 harg3 arg4 harg4 arg5 harg5 arg6 harg6 arg7 harg7 arg8 harg8 arg9 harg9 arg10 harg10 arg11 harg11 arg12 harg12 arg13 harg13 f1 R h1 f10 k0_t1_loop.trips (by rw [trips1]) s (by rw [trips1]; omega)
  refine ⟨Eq.trans ?_ H.1, Eq.trans ?_ H.2⟩
  · exact readAt_unit_at arg12.view _ _ _ _ rfl fun a => by
      match a with
      | ⟨0, _⟩ => show s.val = 0 + s.val; omega
      | ⟨1, _⟩ => rfl
  · exact readAt_unit_at arg12.view _ _ _ _ rfl fun a => by
      match a with
      | ⟨0, _⟩ => show s.val = 0 + s.val; omega
      | ⟨1, _⟩ => rfl

/-- A point's rows of a peer statistic. -/
theorem peer_at (q : Memref sig .tc .vmem S3x1x640 .f32) (f : BufTy.Contents (Elt Ideal) q.view.ty) (s : Fin 128) :
    (View.readAt (Elt Ideal) q.view (Rect.unit (s := S3x1x640) (k0_off83 i) S1x1x128.size (k0_off83_inb i)).toLoadRect f (ix3 0 0 s) : EReal)
      = View.read (Elt Ideal) q.view f (ix3 (batch i) 0 ⟨row0 i + s.val, row0_le i s⟩) := by
  refine readAt_unit_at q.view f _ _ _ (off83_eq i) fun a => ?_
  match a with
  | ⟨0, _⟩ => rfl
  | ⟨1, _⟩ => rfl
  | ⟨2, _⟩ => rfl

include h0 h1 h2 in
/-- The merged mean that the body computes for a row. -/
theorem runMean_at (s : Fin 128) : (runMean c i arg2 harg2 arg3 harg3 arg4 harg4 arg5 harg5 arg6 harg6 arg7 harg7 arg8 harg8 arg9 harg9 arg10 harg10 arg11 harg11 arg12 harg12 arg13 harg13 f0 f1 f2 f10 (ix2 0 s) : EReal) = (R s).mean := by
  unfold runMean
  rw [runCnt_eq arg2 f0 R h0 s]
  exact mean_row (R s) _ _ s (runLoc_at c i arg2 harg2 arg3 harg3 arg4 harg4 arg5 harg5 arg6 harg6 arg7 harg7 arg8 harg8 arg9 harg9 arg10 harg10 arg11 harg11 arg12 harg12 arg13 harg13 f1 f10 R h1 s).1 ((peer_at i arg4 f2 s).trans (h2 s))

include h0 h1 h2 h3 in
/-- The merged reciprocal deviation that the body computes for a row. -/
theorem runRstd_at (s : Fin 128) : (runRstd c i arg2 harg2 arg3 harg3 arg4 harg4 arg5 harg5 arg6 harg6 arg7 harg7 arg8 harg8 arg9 harg9 arg10 harg10 arg11 harg11 arg12 harg12 arg13 harg13 f0 f1 f2 f3 f10 (ix2 0 s) : EReal) = (R s).rstd := by
  unfold runRstd
  rw [runCnt_eq arg2 f0 R h0 s]
  exact rstd_row (R s) _ _ _ s (runLoc_at c i arg2 harg2 arg3 harg3 arg4 harg4 arg5 harg5 arg6 harg6 arg7 harg7 arg8 harg8 arg9 harg9 arg10 harg10 arg11 harg11 arg12 harg12 arg13 harg13 f1 f10 R h1 s).1 ((peer_at i arg4 f2 s).trans (h2 s))
    (runLoc_at c i arg2 harg2 arg3 harg3 arg4 harg4 arg5 harg5 arg6 harg6 arg7 harg7 arg8 harg8 arg9 harg9 arg10 harg10 arg11 harg11 arg12 harg12 arg13 harg13 f1 f10 R h1 s).2 ((peer_at i arg5 f3 s).trans (h3 s))

include h0 h1 h2 h3 in
/-- The statistics that the second loop reads for a row. -/
theorem runStat_at (s : Fin 128) : (View.read (Elt Ideal) arg12.view (runStat c i arg2 harg2 arg3 harg3 arg4 harg4 arg5 harg5 arg6 harg6 arg7 harg7 arg8 harg8 arg9 harg9 arg10 harg10 arg11 harg11 arg12 harg12 arg13 harg13 f0 f1 f2 f3 f10) (ix2 s 0) : EReal) = (R s).mean
    ∧ (View.read (Elt Ideal) arg12.view (runStat c i arg2 harg2 arg3 harg3 arg4 harg4 arg5 harg5 arg6 harg6 arg7 harg7 arg8 harg8 arg9 harg9 arg10 harg10 arg11 harg11 arg12 harg12 arg13 harg13 f0 f1 f2 f3 f10) (ix2 s 1) : EReal) = (R s).rstd := by
  unfold runStat
  constructor
  · rw [View.read_writes_cons_unit_of_mem _ _ _ _ _ _ (ix2 s 0) rfl (fun a => by
      match a with
      | ⟨0, _⟩ => show s.val = 0 + s.val; omega
      | ⟨1, _⟩ => rfl)]
    exact (pay551_mean _ _ s).trans (runMean_at c i arg2 harg2 arg3 harg3 arg4 harg4 arg5 harg5 arg6 harg6 arg7 harg7 arg8 harg8 arg9 harg9 arg10 harg10 arg11 harg11 arg12 harg12 arg13 harg13 f0 f1 f2 f10 R h0 h1 h2 s)
  · rw [View.read_writes_cons_unit_of_mem _ _ _ _ _ _ (ix2 s 1) rfl (fun a => by
      match a with
      | ⟨0, _⟩ => show s.val = 0 + s.val; omega
      | ⟨1, _⟩ => rfl)]
    exact (pay551_rstd _ _ s).trans (runRstd_at c i arg2 harg2 arg3 harg3 arg4 harg4 arg5 harg5 arg6 harg6 arg7 harg7 arg8 harg8 arg9 harg9 arg10 harg10 arg11 harg11 arg12 harg12 arg13 harg13 f0 f1 f2 f3 f10 R h0 h1 h2 h3 s)

variable (f4 : BufTy.Contents (Elt Ideal) arg6.view.ty) (f5 : BufTy.Contents (Elt Ideal) arg7.view.ty)
  (h4 : ∀ s k, (View.read (Elt Ideal) arg6.view f4 (ix2 0 k) : EReal) = (R s).g k)
  (h5 : ∀ s k, (View.read (Elt Ideal) arg7.view f5 (ix2 0 k) : EReal) = (R s).b k)
  (a0 v8 : BitVec 32)

include h0 h1 h2 h3 h4 h5 in
/-- The codes the second loop leaves. -/
theorem codes_read (f : BufTy.Contents (Elt Ideal) arg8.view.ty) :
    View.read (Elt Ideal) arg8.view (arg8.view.writes (Elt Ideal) f
      (pb_k0_t2 Variants.none c none i arg2 harg2 arg3 harg3 arg4 harg4 arg5 harg5 arg6 harg6 arg7 harg7 arg8 harg8 arg9 harg9 arg10 harg10 arg11 harg11 arg12 harg12 arg13 harg13 a0 v8 (runMean c i arg2 harg2 arg3 harg3 arg4 harg4 arg5 harg5 arg6 harg6 arg7 harg7 arg8 harg8 arg9 harg9 arg10 harg10 arg11 harg11 arg12 harg12 arg13 harg13 f0 f1 f2 f10)
        (runRstd c i arg2 harg2 arg3 harg3 arg4 harg4 arg5 harg5 arg6 harg6 arg7 harg7 arg8 harg8 arg9 harg9 arg10 harg10 arg11 harg11 arg12 harg12 arg13 harg13 f0 f1 f2 f3 f10) f1 f4 f5
        (runStat c i arg2 harg2 arg3 harg3 arg4 harg4 arg5 harg5 arg6 harg6 arg7 harg7 arg8 harg8 arg9 harg9 arg10 harg10 arg11 harg11 arg12 harg12 arg13 harg13 f0 f1 f2 f3 f10) (Scf.trips k0_t2_loop.lb k0_t2_loop.ub k0_t2_loop.st)).1) = codesOf R := by
  funext y
  obtain ⟨s, j, l, rfl⟩ : ∃ (s : Fin 128) (j : Fin 80) (l : Fin 128), y = ix3 0 s (Spec.Row.col j l) := ⟨y 1,
    ⟨(y 2).val / 128, by have h : (y 2).val < 10240 := (y 2).isLt; omega⟩, ⟨(y 2).val % 128, Nat.mod_lt _ (by omega)⟩, by
    funext a
    match a with
    | ⟨0, _⟩ => exact Subsingleton.elim (α := Fin 1) _ _
    | ⟨1, _⟩ => rfl
    | ⟨2, _⟩ => refine Fin.ext ?_; show (y 2).val = (y 2).val / 128 * 128 + (y 2).val % 128; omega⟩
  refine (loop2_codes c i arg2 harg2 arg3 harg3 arg4 harg4 arg5 harg5 arg6 harg6 arg7 harg7 arg8 harg8 arg9 harg9 arg10 harg10 arg11 harg11 arg12 harg12 arg13 harg13 f1 R h1 f4 f5 (runStat c i arg2 harg2 arg3 harg3 arg4 harg4 arg5 harg5 arg6 harg6 arg7 harg7 arg8 harg8 arg9 harg9 arg10 harg10 arg11 harg11 arg12 harg12 arg13 harg13 f0 f1 f2 f3 f10) a0 v8 (runMean c i arg2 harg2 arg3 harg3 arg4 harg4 arg5 harg5 arg6 harg6 arg7 harg7 arg8 harg8 arg9 harg9 arg10 harg10 arg11 harg11 arg12 harg12 arg13 harg13 f0 f1 f2 f10) (runRstd c i arg2 harg2 arg3 harg3 arg4 harg4 arg5 harg5 arg6 harg6 arg7 harg7 arg8 harg8 arg9 harg9 arg10 harg10 arg11 harg11 arg12 harg12 arg13 harg13 f0 f1 f2 f3 f10) h4 h5
    (fun s => (runStat_at c i arg2 harg2 arg3 harg3 arg4 harg4 arg5 harg5 arg6 harg6 arg7 harg7 arg8 harg8 arg9 harg9 arg10 harg10 arg11 harg11 arg12 harg12 arg13 harg13 f0 f1 f2 f3 f10 R h0 h1 h2 h3 s).1)
    (fun s => (runStat_at c i arg2 harg2 arg3 harg3 arg4 harg4 arg5 harg5 arg6 harg6 arg7 harg7 arg8 harg8 arg9 harg9 arg10 harg10 arg11 harg11 arg12 harg12 arg13 harg13 f0 f1 f2 f3 f10 R h0 h1 h2 h3 s).2) f k0_t2_loop.trips (by rw [trips2]) s (by rw [trips2]; omega) j l).trans ?_
  show _ = (R s).code ⟨(j.val * 128 + l.val) / 128, _⟩ ⟨(j.val * 128 + l.val) % 128, _⟩
  congr 1 <;> refine Fin.ext ?_
  · show j.val = (j.val * 128 + l.val) / 128; omega
  · show l.val = (j.val * 128 + l.val) % 128; omega

include h0 h1 h2 h3 h4 h5 in
/-- The blocks' largest magnitudes the second loop leaves. -/
theorem amax_read (f : BufTy.Contents (Elt Ideal) arg13.view.ty) (s : Fin 128) (j : Fin 80) :
    (View.readAt (Elt Ideal) arg13.view (Rect.unit ![0, 0] S128x128.size inb_S128x128_S128x128_0_0).toLoadRect (arg13.view.writes (Elt Ideal) f
      (pb_k0_t2 Variants.none c none i arg2 harg2 arg3 harg3 arg4 harg4 arg5 harg5 arg6 harg6 arg7 harg7 arg8 harg8 arg9 harg9 arg10 harg10 arg11 harg11 arg12 harg12 arg13 harg13 a0 v8 (runMean c i arg2 harg2 arg3 harg3 arg4 harg4 arg5 harg5 arg6 harg6 arg7 harg7 arg8 harg8 arg9 harg9 arg10 harg10 arg11 harg11 arg12 harg12 arg13 harg13 f0 f1 f2 f10)
        (runRstd c i arg2 harg2 arg3 harg3 arg4 harg4 arg5 harg5 arg6 harg6 arg7 harg7 arg8 harg8 arg9 harg9 arg10 harg10 arg11 harg11 arg12 harg12 arg13 harg13 f0 f1 f2 f3 f10) f1 f4 f5
        (runStat c i arg2 harg2 arg3 harg3 arg4 harg4 arg5 harg5 arg6 harg6 arg7 harg7 arg8 harg8 arg9 harg9 arg10 harg10 arg11 harg11 arg12 harg12 arg13 harg13 f0 f1 f2 f3 f10) (Scf.trips k0_t2_loop.lb k0_t2_loop.ub k0_t2_loop.st)).2) (ix2 s ⟨j.val, by omega⟩) : EReal) = (R s).amax j := by
  refine Eq.trans ?_ (loop2_amax c i arg2 harg2 arg3 harg3 arg4 harg4 arg5 harg5 arg6 harg6 arg7 harg7 arg8 harg8 arg9 harg9 arg10 harg10 arg11 harg11 arg12 harg12 arg13 harg13 f1 R h1 f4 f5 (runStat c i arg2 harg2 arg3 harg3 arg4 harg4 arg5 harg5 arg6 harg6 arg7 harg7 arg8 harg8 arg9 harg9 arg10 harg10 arg11 harg11 arg12 harg12 arg13 harg13 f0 f1 f2 f3 f10) a0 v8 (runMean c i arg2 harg2 arg3 harg3 arg4 harg4 arg5 harg5 arg6 harg6 arg7 harg7 arg8 harg8 arg9 harg9 arg10 harg10 arg11 harg11 arg12 harg12 arg13 harg13 f0 f1 f2 f10) (runRstd c i arg2 harg2 arg3 harg3 arg4 harg4 arg5 harg5 arg6 harg6 arg7 harg7 arg8 harg8 arg9 harg9 arg10 harg10 arg11 harg11 arg12 harg12 arg13 harg13 f0 f1 f2 f3 f10) h4 h5
    (fun s => (runStat_at c i arg2 harg2 arg3 harg3 arg4 harg4 arg5 harg5 arg6 harg6 arg7 harg7 arg8 harg8 arg9 harg9 arg10 harg10 arg11 harg11 arg12 harg12 arg13 harg13 f0 f1 f2 f3 f10 R h0 h1 h2 h3 s).1)
    (fun s => (runStat_at c i arg2 harg2 arg3 harg3 arg4 harg4 arg5 harg5 arg6 harg6 arg7 harg7 arg8 harg8 arg9 harg9 arg10 harg10 arg11 harg11 arg12 harg12 arg13 harg13 f0 f1 f2 f3 f10 R h0 h1 h2 h3 s).2) f k0_t2_loop.trips (by rw [trips2]) s (by rw [trips2]; omega) j)
  exact readAt_unit_at arg13.view _ _ _ _ rfl fun a => by
    match a with
    | ⟨0, _⟩ => show s.val = 0 + s.val; omega
    | ⟨1, _⟩ => show j.val = 0 + j.val; omega

end

end Cert.KernelIdeal.Hand

end
-- ==== Proof.Hand.IdealBody.lean ====
/-
  What the kernel's body leaves in its four output blocks, in extended reals.
-/
module

public import proofs.«01_k».proof.Proof.Hand.IdealPieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The kernel body on whole buffers, the six inputs at contents `x0` … `x5`, the codes, the scales and the two scratch
    buffers at anything, the means at `x8` and the reciprocal deviations at `x9`, runs to the end. It leaves the inputs as
    they were, the codes and the scales of the rows of its tile, and `x8` and `x9` with the tile's own values put in. -/
theorem sound_kernel_val (c : Dev nD) (E : Set ℕ) (i : grid0.Coords)
      (arg2 : Memref sig .tc .smem S1 .f32) (harg2 : arg2.IsWhole)
      (arg3 : Memref sig .tc .vmem S1x128x10240 .bf16) (harg3 : arg3.IsWhole)
      (arg4 : Memref sig .tc .vmem S3x1x640 .f32) (harg4 : arg4.IsWhole)
      (arg5 : Memref sig .tc .vmem S3x1x640 .f32) (harg5 : arg5.IsWhole)
      (arg6 : Memref sig .tc .vmem S1x10240 .f32) (harg6 : arg6.IsWhole)
      (arg7 : Memref sig .tc .vmem S1x10240 .f32) (harg7 : arg7.IsWhole)
      (arg8 : Memref sig .tc .vmem S1x128x10240 .fp8e4m3) (harg8 : arg8.IsWhole)
      (arg9 : Memref sig .tc .vmem S1x80x128 .f32) (harg9 : arg9.IsWhole)
      (arg10 : Memref sig .tc .vmem S3x640 .f32) (harg10 : arg10.IsWhole)
      (arg11 : Memref sig .tc .vmem S3x640 .f32) (harg11 : arg11.IsWhole)
      (arg12 : Memref sig .tc .vmem S128x128 .f32) (harg12 : arg12.IsWhole)
      (arg13 : Memref sig .tc .vmem S128x128 .f32) (harg13 : arg13.IsWhole)
      (x0 : Vec Ideal S1 .f32) (x1 : Vec Ideal S1x128x10240 .bf16) (x2 : Vec Ideal S3x1x640 .f32) (x3 : Vec Ideal S3x1x640 .f32) (x4 : Vec Ideal S1x10240 .f32) (x5 : Vec Ideal S1x10240 .f32) (x8 x9 : Vec Ideal S3x640 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare x8 ∗ owns (c : Thread nD τ) arg11 fullShare x9 ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (codesOf (rowsAt i x0 x1 x2 x3 x4 x5)) ∗ owns (c : Thread nD τ) arg9 fullShare (scalesOf (rowsAt i x0 x1 x2 x3 x4 x5))
            ∗ owns (c : Thread nD τ) arg10 fullShare (meanStep i (rowsAt i x0 x1 x2 x3 x4 x5) x8) ∗ owns (c : Thread nD τ) arg11 fullShare (rstdStep i (rowsAt i x0 x1 x2 x3 x4 x5) x9) ∗ (∃ d, owns (c : Thread nD τ) arg12 fullShare d) ∗ (∃ d, owns (c : Thread nD τ) arg13 fullShare d)) -∗ K ⟨⟩))
      ⊢ wp frame (wpE (defs₀ (F := Ideal)) Variants.none (c : Thread nD τ) none) E (cc0_ln_fp8 i arg2 harg2 arg3 harg3 arg4 harg4 arg5 harg5 arg6 harg6 arg7 harg7 arg8 harg8 arg9 harg9 arg10 harg10 arg11 harg11 arg12 harg12 arg13 harg13) K := by
  simp only [cc0_ln_fp8_eq_skeleton]; unfold cc0_ln_fp8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%d10, %f10, -, H10⟩, ⟨%d11, %f11, -, H11⟩, Hk⟩
  have h0 : ∀ s, (View.read (Elt Ideal) arg2.view f0 (ix1 0) : EReal) = (rowsAt i x0 x1 x2 x3 x4 x5 s).cnt := fun s => congrFun hf0 _
  have h1 : ∀ s k, (View.read (Elt Ideal) arg3.view f1 (ix3 0 s k) : EReal) = (rowsAt i x0 x1 x2 x3 x4 x5 s).x k := fun s k => congrFun hf1 _
  have h2 : ∀ s, (View.read (Elt Ideal) arg4.view f2 (ix3 (batch i) 0 ⟨row0 i + s.val, row0_le i s⟩) : EReal) = (rowsAt i x0 x1 x2 x3 x4 x5 s).pm := fun s => congrFun hf2 _
  have h3 : ∀ s, (View.read (Elt Ideal) arg5.view f3 (ix3 (batch i) 0 ⟨row0 i + s.val, row0_le i s⟩) : EReal) = (rowsAt i x0 x1 x2 x3 x4 x5 s).pv := fun s => congrFun hf3 _
  have h4 : ∀ s k, (View.read (Elt Ideal) arg6.view f4 (ix2 0 k) : EReal) = (rowsAt i x0 x1 x2 x3 x4 x5 s).g k := fun s k => congrFun hf4 _
  have h5 : ∀ s k, (View.read (Elt Ideal) arg7.view f5 (ix2 0 k) : EReal) = (rowsAt i x0 x1 x2 x3 x4 x5 s).b k := fun s k => congrFun hf5 _
  sl_exec
  sl_step
  have er1 : sound_kernel_val.sl.r_1 c i arg2 harg2 arg3 harg3 arg4 harg4 arg5 harg5 arg6 harg6 arg7 harg7 arg8 harg8 arg9 harg9 arg10 harg10 arg11 harg11 arg12 harg12 arg13 harg13 f0 f1 f2 f10 = runMean c i arg2 harg2 arg3 harg3 arg4 harg4 arg5 harg5 arg6 harg6 arg7 harg7 arg8 harg8 arg9 harg9 arg10 harg10 arg11 harg11 arg12 harg12 arg13 harg13 f0 f1 f2 f10 := by
    unfold sound_kernel_val.sl.r_1 runMean sound_kernel_val.sl.r runCnt runLoc sound_kernel_val.sl.cst_0
    with_reducible rfl
  have er2 : sound_kernel_val.sl.r_2 c i arg2 harg2 arg3 harg3 arg4 harg4 arg5 harg5 arg6 harg6 arg7 harg7 arg8 harg8 arg9 harg9 arg10 harg10 arg11 harg11 arg12 harg12 arg13 harg13 f0 f1 f2 f3 f10 = runRstd c i arg2 harg2 arg3 harg3 arg4 harg4 arg5 harg5 arg6 harg6 arg7 harg7 arg8 harg8 arg9 harg9 arg10 harg10 arg11 harg11 arg12 harg12 arg13 harg13 f0 f1 f2 f3 f10 := by
    unfold sound_kernel_val.sl.r_2 runRstd sound_kernel_val.sl.r runCnt runLoc sound_kernel_val.sl.cst_0
    with_reducible rfl
  have es : arg12.view.writes (Elt Ideal) arg12.view.junk (sound_kernel_val.sl.H10_1 c i arg2 harg2 arg3 harg3 arg4 harg4 arg5 harg5 arg6 harg6 arg7 harg7 arg8 harg8 arg9 harg9 arg10 harg10 arg11 harg11 arg12 harg12 arg13 harg13 f0 f1 f2 f3 f10) = runStat c i arg2 harg2 arg3 harg3 arg4 harg4 arg5 harg5 arg6 harg6 arg7 harg7 arg8 harg8 arg9 harg9 arg10 harg10 arg11 harg11 arg12 harg12 arg13 harg13 f0 f1 f2 f3 f10 := by
    unfold sound_kernel_val.sl.H10_1 runStat
    rw [er1, er2]
    unfold sound_kernel_val.sl.cst_0
    with_reducible rfl
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; · iexact H6
    ipureintro
    rw [er1, er2, es]
    exact codes_read c i arg2 harg2 arg3 harg3 arg4 harg4 arg5 harg5 arg6 harg6 arg7 harg7 arg8 harg8 arg9 harg9 arg10 harg10 arg11 harg11 arg12 harg12 arg13 harg13 f0 f1 f2 f3 f10 _ h0 h1 h2 h3 f4 f5 h4 h5 _ _ f6
  isplitl [H7]
  · iexists _; isplitr; swap; · iexact H7
    ipureintro
    unfold sound_kernel_val.sl.r_3 sound_kernel_val.sl.r_4 sound_kernel_val.sl.v73
    rw [er1, er2, es]
    exact scales_read arg9 f7 _ _ fun s j => amax_read c i arg2 harg2 arg3 harg3 arg4 harg4 arg5 harg5 arg6 harg6 arg7 harg7 arg8 harg8 arg9 harg9 arg10 harg10 arg11 harg11 arg12 harg12 arg13 harg13 f0 f1 f2 f3 f10 _ h0 h1 h2 h3 f4 f5 h4 h5 _ _ f11 s j
  isplitl [H8]
  · iexists _; isplitr; swap; · iexact H8
    ipureintro
    refine step_read i arg10 _ (fun s => (rowsAt i x0 x1 x2 x3 x4 x5 s).mean) x8 (fun y => (zeroed_at arg10 f8 _ _ (first_iff i) _ pay547_at y).trans ?_) _ fun b s => (pay549_at _ _ _ b s).trans ?_
    · rw [hf8]
    · congr 1
      exact (congrFun er1 _).trans <| runMean_at c i arg2 harg2 arg3 harg3 arg4 harg4 arg5 harg5 arg6 harg6 arg7 harg7 arg8 harg8 arg9 harg9 arg10 harg10 arg11 harg11 arg12 harg12 arg13 harg13 f0 f1 f2 f10 _ h0 h1 h2 s
  isplitl [H9]
  · iexists _; isplitr; swap; · iexact H9
    ipureintro
    refine step_read i arg11 _ (fun s => (rowsAt i x0 x1 x2 x3 x4 x5 s).rstd) x9 (fun y => (zeroed_at arg11 f9 _ _ (first_iff i) _ pay548_at y).trans ?_) _ fun b s => (pay550_at _ _ _ b s).trans ?_
    · rw [hf9]
    · congr 1
      exact (congrFun er2 _).trans <| runRstd_at c i arg2 harg2 arg3 harg3 arg4 harg4 arg5 harg5 arg6 harg6 arg7 harg7 arg8 harg8 arg9 harg9 arg10 harg10 arg11 harg11 arg12 harg12 arg13 harg13 f0 f1 f2 f3 f10 _ h0 h1 h2 h3 s
  isplitl [H10]
  · iexists _, _; isplitr; swap; · iexact H10
    ipureintro; rfl
  iexists _, _; isplitr; swap; · iexact H11
  ipureintro; rfl

end Cert.KernelIdeal.Hand

end
-- ==== Proof.Hand.IdealInputs.lean ====
/-
  What the kernel's region finds in its input blocks, as rows of the arguments.
-/
module

public import proofs.«01_k».proof.Proof.Hand.IdealPieces
public import Idealize.ShloMosaic.Lib.Pipeline.ValueKit
public import Idealize.ShloMosaic.Lib.StableHlo.ReadAt

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `s` of batch element `b`, and the peer's statistics of it, as the kernel is given them. -/
def krow (s : Fin 640) (b : Fin 3) : Spec.Row where
  x k := m (c, Proc.tc.devRef main_arg0) (ix3 s b k)
  cnt := m (c, Proc.tc.devRef main_arg1) (ix1 0)
  pm := m (c, Proc.tc.devRef main_arg2) (ix3 0 s b)
  pv := m (c, Proc.tc.devRef main_arg3) (ix3 0 s b)
  g k := m (c, Proc.tc.devRef main_arg4) (ix1 k)
  b k := m (c, Proc.tc.devRef main_arg5) (ix1 k)

/-! ## The host operations before the region -/

/-- The first operand of the call is `x` with its first two dimensions exchanged. -/
theorem v0_at (b : Fin 3) (s : Fin 640) (k : Fin 10240) : (V m c main_v0 (ix3 b s k) : EReal) = (krow m c s b).x k := by
  unfold V V0
  simp only [List.flatten_cons, List.flatten_nil, List.append_nil, hostOps0]
  after_reads_at
  rfl
/-- The count is passed on as it is. -/
theorem arg1_at : (V m c main_arg1 (ix1 0) : EReal) = m (c, Proc.tc.devRef main_arg1) (ix1 0) := by
  rw [V_main_arg1]
/-- The means of the peer, with the batch first. -/
theorem v1_at (b : Fin 3) (s : Fin 640) : (V m c main_v1 (ix3 b 0 s) : EReal) = (krow m c s b).pm := by
  unfold V V0
  simp only [List.flatten_cons, List.flatten_nil, List.append_nil, hostOps0]
  after_reads_at
  rfl
/-- The sums of squares of the peer, with the batch first. -/
theorem v2_at (b : Fin 3) (s : Fin 640) : (V m c main_v2 (ix3 b 0 s) : EReal) = (krow m c s b).pv := by
  unfold V V0
  simp only [List.flatten_cons, List.flatten_nil, List.append_nil, hostOps0]
  after_reads_at
  rfl
/-- `gamma` as one row. -/
theorem v3_at (s : Fin 640) (b : Fin 3) (k : Fin 10240) : (V m c main_v3 (ix2 0 k) : EReal) = (krow m c s b).g k := by
  unfold V V0
  simp only [List.flatten_cons, List.flatten_nil, List.append_nil, hostOps0]
  after_reads_at
  rfl
/-- `beta` as one row. -/
theorem v4_at (s : Fin 640) (b : Fin 3) (k : Fin 10240) : (V m c main_v4 (ix2 0 k) : EReal) = (krow m c s b).b k := by
  unfold V V0
  simp only [List.flatten_cons, List.flatten_nil, List.append_nil, hostOps0]
  after_reads_at
  rfl

/-! ## The windows' blocks -/

/-- The batch index of a step. -/
theorem coords0 : ∀ t : Fin cfg0.N, (grid0.coords t 0).val = t.val / 5 :=
  (by decide +kernel : ∀ t : Fin grid0.N, (grid0.coords t 0).val = t.val / 5)
/-- The tile index of a step. -/
theorem coords1 : ∀ t : Fin cfg0.N, (grid0.coords t 1).val = t.val % 5 :=
  (by decide +kernel : ∀ t : Fin grid0.N, (grid0.coords t 1).val = t.val % 5)
/-- There are 15 steps. -/
theorem lt15 : ∀ t : Fin cfg0.N, t.val < 15 := (by decide +kernel : ∀ t : Fin grid0.N, t.val < 15)

/-- The count has one block. -/
theorem widx0 : ∀ t : Fin cfg0.grid.N, win0_0.index t 0 = 0 := (by decide +kernel : ∀ t : Fin grid0.N, win0_0.index t 0 = 0)
/-- The block of `x` at a step is the tile of its batch and tile index. -/
theorem widx1 : ∀ t : Fin cfg0.grid.N, win0_1.index t 0 = t.val / 5 ∧ win0_1.index t 1 = t.val % 5 ∧ win0_1.index t 2 = 0 :=
  (by decide +kernel : ∀ t : Fin grid0.N, win0_1.index t 0 = t.val / 5 ∧ win0_1.index t 1 = t.val % 5 ∧ win0_1.index t 2 = 0)
/-- The means of the peer are one block. -/
theorem widx2 : ∀ (t : Fin cfg0.grid.N) (a : Fin 3), win0_2.index t a = 0 := (by decide +kernel : ∀ (t : Fin grid0.N) (a : Fin 3), win0_2.index t a = 0)
/-- The sums of squares of the peer are one block. -/
theorem widx3 : ∀ (t : Fin cfg0.grid.N) (a : Fin 3), win0_3.index t a = 0 := (by decide +kernel : ∀ (t : Fin grid0.N) (a : Fin 3), win0_3.index t a = 0)
/-- `gamma` is one block. -/
theorem widx4 : ∀ (t : Fin cfg0.grid.N) (a : Fin 2), win0_4.index t a = 0 := (by decide +kernel : ∀ (t : Fin grid0.N) (a : Fin 2), win0_4.index t a = 0)
/-- `beta` is one block. -/
theorem widx5 : ∀ (t : Fin cfg0.grid.N) (a : Fin 2), win0_5.index t a = 0 := (by decide +kernel : ∀ (t : Fin grid0.N) (a : Fin 2), win0_5.index t a = 0)

/-- The batch element of point `t`. -/
def pb (t : Fin cfg0.N) : Fin 3 := ⟨t.val / 5, by have := lt15 t; omega⟩
/-- Row `s` of point `t`. -/
def pn (t : Fin cfg0.N) (s : Fin 128) : Fin 640 := ⟨t.val % 5 * 128 + s.val, by omega⟩

/-- The block of the count. -/
theorem iblk0_at (t : Fin cfg0.N) : (iblk m c 0 t (ix1 0) : EReal) = V m c main_arg1 (ix1 0) := by
  unfold iblk
  show _ = V m c (Pipeline.arrRef spec0 0) (ix1 0)
  generalize hA : V m c (Pipeline.arrRef spec0 0) = A
  refine (cast_eq _ _).trans (congrArg A (funext fun a => Fin.ext ?_))
  match a with
  | ⟨0, _⟩ => blk_simp; rw [widx0]; rfl

/-- The block of `x` at a step: 128 rows of one batch index. -/
theorem iblk1_at (t : Fin cfg0.N) (s : Fin 128) (k : Fin 10240) : (iblk m c 1 t (ix3 0 s k) : EReal) = V m c main_v0 (ix3 (pb t) (pn t s) k) := by
  unfold iblk
  show _ = V m c (Pipeline.arrRef spec0 1) (ix3 (pb t) (pn t s) k)
  generalize hA : V m c (Pipeline.arrRef spec0 1) = A
  refine (cast_eq _ _).trans (congrArg A (funext fun a => Fin.ext ?_))
  match a with
  | ⟨0, _⟩ => blk_simp; rw [(widx1 t).1]; rfl
  | ⟨1, _⟩ => blk_simp; rw [(widx1 t).2.1]; rfl
  | ⟨2, _⟩ => blk_simp; rw [(widx1 t).2.2]; show 0 * 10240 + k.val = k.val; omega

/-- The block of the means of the peer. -/
theorem iblk2_at (t : Fin cfg0.N) (b : Fin 3) (n : Fin 640) : (iblk m c 2 t (ix3 b 0 n) : EReal) = V m c main_v1 (ix3 b 0 n) := by
  unfold iblk
  show _ = V m c (Pipeline.arrRef spec0 2) (ix3 b 0 n)
  generalize hA : V m c (Pipeline.arrRef spec0 2) = A
  refine (cast_eq _ _).trans (congrArg A (funext fun a => Fin.ext ?_))
  match a with
  | ⟨0, _⟩ => blk_simp; rw [widx2, Nat.zero_mul, Nat.zero_add]
  | ⟨1, _⟩ => blk_simp; rw [widx2]; rfl
  | ⟨2, _⟩ => blk_simp; rw [widx2, Nat.zero_mul, Nat.zero_add]

/-- The block of the sums of squares of the peer. -/
theorem iblk3_at (t : Fin cfg0.N) (b : Fin 3) (n : Fin 640) : (iblk m c 3 t (ix3 b 0 n) : EReal) = V m c main_v2 (ix3 b 0 n) := by
  unfold iblk
  show _ = V m c (Pipeline.arrRef spec0 3) (ix3 b 0 n)
  generalize hA : V m c (Pipeline.arrRef spec0 3) = A
  refine (cast_eq _ _).trans (congrArg A (funext fun a => Fin.ext ?_))
  match a with
  | ⟨0, _⟩ => blk_simp; rw [widx3, Nat.zero_mul, Nat.zero_add]
  | ⟨1, _⟩ => blk_simp; rw [widx3]; rfl
  | ⟨2, _⟩ => blk_simp; rw [widx3, Nat.zero_mul, Nat.zero_add]

/-- The block of `gamma`. -/
theorem iblk4_at (t : Fin cfg0.N) (k : Fin 10240) : (iblk m c 4 t (ix2 0 k) : EReal) = V m c main_v3 (ix2 0 k) := by
  unfold iblk
  show _ = V m c (Pipeline.arrRef spec0 4) (ix2 0 k)
  generalize hA : V m c (Pipeline.arrRef spec0 4) = A
  refine (cast_eq _ _).trans (congrArg A (funext fun a => Fin.ext ?_))
  match a with
  | ⟨0, _⟩ => blk_simp; rw [widx4]; rfl
  | ⟨1, _⟩ => blk_simp; rw [widx4, Nat.zero_mul, Nat.zero_add]

/-- The block of `beta`. -/
theorem iblk5_at (t : Fin cfg0.N) (k : Fin 10240) : (iblk m c 5 t (ix2 0 k) : EReal) = V m c main_v4 (ix2 0 k) := by
  unfold iblk
  show _ = V m c (Pipeline.arrRef spec0 5) (ix2 0 k)
  generalize hA : V m c (Pipeline.arrRef spec0 5) = A
  refine (cast_eq _ _).trans (congrArg A (funext fun a => Fin.ext ?_))
  match a with
  | ⟨0, _⟩ => blk_simp; rw [widx5]; rfl
  | ⟨1, _⟩ => blk_simp; rw [widx5, Nat.zero_mul, Nat.zero_add]

/-- A point's rows, read off its blocks, are the arguments' rows. -/
theorem rows_eq (t : Fin cfg0.N) (s : Fin 128) :
    rowsAt (grid0.coords t) (iblk m c 0 t) (iblk m c 1 t) (iblk m c 2 t) (iblk m c 3 t) (iblk m c 4 t) (iblk m c 5 t) s = krow m c (pn t s) (pb t) := by
  have hb : batch (grid0.coords t) = pb t := Fin.ext (coords0 t)
  have hn : (⟨row0 (grid0.coords t) + s.val, row0_le (grid0.coords t) s⟩ : Fin 640) = pn t s := Fin.ext (by
    show 128 * (grid0.coords t 1).val + s.val = t.val % 5 * 128 + s.val
    rw [coords1]; omega)
  unfold rowsAt
  rw [hb, hn]
  unfold krow
  congr 1
  · funext k; exact (iblk1_at m c t s k).trans (v0_at m c _ _ k)
  · exact (iblk0_at m c t).trans (arg1_at m c)
  · exact (iblk2_at m c t _ _).trans (v1_at m c _ _)
  · exact (iblk3_at m c t _ _).trans (v2_at m c _ _)
  · funext k; exact (iblk4_at m c t k).trans (v3_at m c (pn t s) (pb t) k)
  · funext k; exact (iblk5_at m c t k).trans (v4_at m c (pn t s) (pb t) k)

end Cert.KernelIdeal.Hand

end
-- ==== Proof.Hand.IdealRun.lean ====
/-
  The kernel's run with its four results, in extended reals.
-/
module

public import proofs.«01_k».proof.Proof.Hand.IdealBody
public import proofs.«01_k».proof.Proof.Hand.IdealInputs
public import proofs.«01_k».proof.Proof.Hand.IdealFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the body leaves, in terms of the arguments -/

/-- The rows of point `t`. -/
def rowsOf (c : Dev nD) (t : Fin cfg0.N) (s : Fin 128) : Spec.Row := krow m c (pn t s) (pb t)

/-- A value per row of each batch element, where a point up to `n` has written it, and zero elsewhere. -/
def upTo (v : Fin 3 → Fin 640 → EReal) (n : ℕ) : Vec Ideal S3x640 .f32 := fun y =>
  if (y 0).val * 5 + (y 1).val / 128 ≤ n then v (y 0) (y 1) else (0 : EReal)

/-- The merged means. -/
def means (c : Dev nD) (b : Fin 3) (s : Fin 640) : EReal := (krow m c s b).mean
/-- The merged reciprocal deviations. -/
def rstds (c : Dev nD) (b : Fin 3) (s : Fin 640) : EReal := (krow m c s b).rstd

/-- Point `t`'s step takes the values of the points before it to the values of the points up to it. -/
theorem stepOf_eq (v : Fin 3 → Fin 640 → EReal) (t : Fin cfg0.N) (old : Vec Ideal S3x640 .f32)
    (h : t.val ≠ 0 → old = upTo v (t.val - 1)) :
    stepOf (grid0.coords t) (fun s => v (pb t) (pn t s)) old = upTo v t.val := by
  have ht := lt15 t
  funext y
  obtain ⟨b, n, rfl⟩ : ∃ (b : Fin 3) (n : Fin 640), y = ix2 b n := ⟨y 0, y 1, by funext a; match a with | ⟨0, _⟩ => rfl | ⟨1, _⟩ => rfl⟩
  show (if b.val = (grid0.coords t 0).val ∧ n.val / 128 = (grid0.coords t 1).val then v (pb t) (pn t ⟨n.val % 128, _⟩)
    else if (grid0.coords t 0).val = 0 ∧ (grid0.coords t 1).val = 0 then (0 : EReal) else old (ix2 b n))
      = if b.val * 5 + n.val / 128 ≤ t.val then v b n else (0 : EReal)
  rw [coords0, coords1]
  by_cases h1 : b.val = t.val / 5 ∧ n.val / 128 = t.val % 5
  · rw [if_pos h1, if_pos (by omega)]
    have e1 : pb t = b := Fin.ext h1.1.symm
    have e2 : pn t ⟨n.val % 128, Nat.mod_lt _ (by omega)⟩ = n := Fin.ext (by show t.val % 5 * 128 + n.val % 128 = n.val; omega)
    rw [e1, e2]
  · rw [if_neg h1]
    by_cases h0 : t.val = 0
    · rw [if_pos (by omega), if_neg (by omega)]
    · rw [if_neg (by omega), h h0]
      show (if b.val * 5 + n.val / 128 ≤ t.val - 1 then v b n else (0 : EReal)) = _
      by_cases h2 : b.val * 5 + n.val / 128 ≤ t.val - 1
      · rw [if_pos h2, if_pos (by omega)]
      · rw [if_neg h2, if_neg (by omega)]

/-! ## The proof data -/

/-- The proof data on core `c`: the arrays as the region finds them; after point `t` the input windows at their blocks, the
    codes and scales of the point's rows, and the statistics of the points up to it; the scratch buffers at anything. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesOf (rowsOf m c t)
    | ⟨7, _⟩ => scalesOf (rowsOf m c t)
    | ⟨8, _⟩ => upTo (means m c) t.val
    | ⟨9, _⟩ => upTo (rstds m c) t.val
  Φ _ := Pipeline.ΦA spec0 c
  q _ := fullShare
  owed _ := 0

/-- The arrays before the run are the operands of the call. -/
theorem vA_eq (c : Dev nD) (w : Fin cfg0.W) : (vdats m 0 c).A w = V m c (Pipeline.arrRef spec0 w) := by
  dsimp only [vdats]

/-- After a step the block of the count is what it was. -/
theorem vafter0_0 (c : Dev nD) (t : Fin cfg0.N) : (vdats m 0 c).after 0 t = iblk m c 0 t := by dsimp only [vdats]
/-- After a step the block of `x` is what it was. -/
theorem vafter0_1 (c : Dev nD) (t : Fin cfg0.N) : (vdats m 0 c).after 1 t = iblk m c 1 t := by dsimp only [vdats]
/-- After a step the block of the means of the peer is what it was. -/
theorem vafter0_2 (c : Dev nD) (t : Fin cfg0.N) : (vdats m 0 c).after 2 t = iblk m c 2 t := by dsimp only [vdats]
/-- After a step the block of the sums of squares of the peer is what it was. -/
theorem vafter0_3 (c : Dev nD) (t : Fin cfg0.N) : (vdats m 0 c).after 3 t = iblk m c 3 t := by dsimp only [vdats]
/-- After a step the block of `gamma` is what it was. -/
theorem vafter0_4 (c : Dev nD) (t : Fin cfg0.N) : (vdats m 0 c).after 4 t = iblk m c 4 t := by dsimp only [vdats]
/-- After a step the block of `beta` is what it was. -/
theorem vafter0_5 (c : Dev nD) (t : Fin cfg0.N) : (vdats m 0 c).after 5 t = iblk m c 5 t := by dsimp only [vdats]
/-- After a step window 6 holds the codes of the rows of its tile. -/
theorem vafter0_6 (c : Dev nD) (t : Fin cfg0.N) : (vdats m 0 c).after 6 t = codesOf (rowsOf m c t) := by dsimp only [vdats]
/-- After a step window 7 holds the scales of the rows of its tile. -/
theorem vafter0_7 (c : Dev nD) (t : Fin cfg0.N) : (vdats m 0 c).after 7 t = scalesOf (rowsOf m c t) := by dsimp only [vdats]
/-- After a step window 8 holds the means of all tiles up to its own. -/
theorem vafter0_8 (c : Dev nD) (t : Fin cfg0.N) : (vdats m 0 c).after 8 t = upTo (means m c) t.val := by dsimp only [vdats]
/-- After a step window 9 holds the reciprocal deviations of all tiles up to its own. -/
theorem vafter0_9 (c : Dev nD) (t : Fin cfg0.N) : (vdats m 0 c).after 9 t = upTo (rstds m c) t.val := by dsimp only [vdats]
/-- Before a step the block of the count is the one taken from the operand. -/
theorem vbefore0_0 (c : Dev nD) (t : Fin cfg0.N) (d) : (vdats m 0 c).before 0 t d = iblk m c 0 t :=
  before0_0_of m (vdats m 0 c) (vA_eq m c 0) (vafter0_0 m c) t d
/-- Before a step the block of `x` is the one taken from the operand. -/
theorem vbefore0_1 (c : Dev nD) (t : Fin cfg0.N) (d) : (vdats m 0 c).before 1 t d = iblk m c 1 t :=
  before0_1_of m (vdats m 0 c) (vA_eq m c 1) (vafter0_1 m c) t d
/-- Before a step the block of the means of the peer is the one taken from the operand. -/
theorem vbefore0_2 (c : Dev nD) (t : Fin cfg0.N) (d) : (vdats m 0 c).before 2 t d = iblk m c 2 t :=
  before0_2_of m (vdats m 0 c) (vA_eq m c 2) (vafter0_2 m c) t d
/-- Before a step the block of the sums of squares of the peer is the one taken from the operand. -/
theorem vbefore0_3 (c : Dev nD) (t : Fin cfg0.N) (d) : (vdats m 0 c).before 3 t d = iblk m c 3 t :=
  before0_3_of m (vdats m 0 c) (vA_eq m c 3) (vafter0_3 m c) t d
/-- Before a step the block of `gamma` is the one taken from the operand. -/
theorem vbefore0_4 (c : Dev nD) (t : Fin cfg0.N) (d) : (vdats m 0 c).before 4 t d = iblk m c 4 t :=
  before0_4_of m (vdats m 0 c) (vA_eq m c 4) (vafter0_4 m c) t d
/-- Before a step the block of `beta` is the one taken from the operand. -/
theorem vbefore0_5 (c : Dev nD) (t : Fin cfg0.N) (d) : (vdats m 0 c).before 5 t d = iblk m c 5 t :=
  before0_5_of m (vdats m 0 c) (vA_eq m c 5) (vafter0_5 m c) t d
/-- The means are written back after the last step alone. -/
theorem vflush0_8 : ∀ t : Fin cfg0.N, t.val ≠ 14 → (cfg0.win 8).flush t = false :=
  (by decide +kernel : ∀ t : Fin grid0.N, t.val ≠ 14 → win0_8.flush t = false)
/-- After the first point the body finds in window 8's buffer what it left there at the point before. -/
theorem vbefore0_8 (c : Dev nD) (t : Fin cfg0.N) (ht : t.val ≠ 0) (d) : (vdats m 0 c).before 8 t d = upTo (means m c) (t.val - 1) :=
  ((vdats m 0 c).before_out_kept 8 rfl t ht (vflush0_8 _ (by have := lt15 t; show t.val - 1 ≠ 14; omega)) (fun _ => rfl) (fun _ _ => rfl) d).trans
    (vafter0_8 m c _)
/-- The reciprocal deviations are written back after the last step alone. -/
theorem vflush0_9 : ∀ t : Fin cfg0.N, t.val ≠ 14 → (cfg0.win 9).flush t = false :=
  (by decide +kernel : ∀ t : Fin grid0.N, t.val ≠ 14 → win0_9.flush t = false)
/-- After the first point the body finds in window 9's buffer what it left there at the point before. -/
theorem vbefore0_9 (c : Dev nD) (t : Fin cfg0.N) (ht : t.val ≠ 0) (d) : (vdats m 0 c).before 9 t d = upTo (rstds m c) (t.val - 1) :=
  ((vdats m 0 c).before_out_kept 9 rfl t ht (vflush0_9 _ (by have := lt15 t; show t.val - 1 ≠ 14; omega)) (fun _ => rfl) (fun _ _ => rfl) d).trans
    (vafter0_9 m c _)

/-- The rows read off a point's blocks. -/
theorem rowsAt_eq (c : Dev nD) (t : Fin cfg0.N) :
    rowsAt (grid0.coords t) (iblk m c 0 t) (iblk m c 1 t) (iblk m c 2 t) (iblk m c 3 t) (iblk m c 4 t) (iblk m c 5 t) = rowsOf m c t :=
  funext fun s => rows_eq m c t s
/-- The codes that a step leaves, stated by the rows of its tile. -/
theorem codes_eq (c : Dev nD) (t : Fin cfg0.N) :
    codesOf (rowsAt (grid0.coords t) (iblk m c 0 t) (iblk m c 1 t) (iblk m c 2 t) (iblk m c 3 t) (iblk m c 4 t) (iblk m c 5 t)) = codesOf (rowsOf m c t) := by
  rw [rowsAt_eq]
/-- The scales that a step leaves, stated by the rows of its tile. -/
theorem scales_eq (c : Dev nD) (t : Fin cfg0.N) :
    scalesOf (rowsAt (grid0.coords t) (iblk m c 0 t) (iblk m c 1 t) (iblk m c 2 t) (iblk m c 3 t) (iblk m c 4 t) (iblk m c 5 t)) = scalesOf (rowsOf m c t) := by
  rw [rowsAt_eq]
/-- A step adds the means of its tile to those of the steps before. -/
theorem mean_eq (c : Dev nD) (t : Fin cfg0.N) (d) :
    meanStep (grid0.coords t) (rowsAt (grid0.coords t) (iblk m c 0 t) (iblk m c 1 t) (iblk m c 2 t) (iblk m c 3 t) (iblk m c 4 t) (iblk m c 5 t))
      ((vdats m 0 c).before 8 t d) = upTo (means m c) t.val := by
  rw [rowsAt_eq]
  exact stepOf_eq (means m c) t _ fun ht => vbefore0_8 m c t ht d
/-- A step adds the reciprocal deviations of its tile to those of the steps before. -/
theorem rstd_eq (c : Dev nD) (t : Fin cfg0.N) (d) :
    rstdStep (grid0.coords t) (rowsAt (grid0.coords t) (iblk m c 0 t) (iblk m c 1 t) (iblk m c 2 t) (iblk m c 3 t) (iblk m c 4 t) (iblk m c 5 t))
      ((vdats m 0 c).before 9 t d) = upTo (rstds m c) t.val := by
  rw [rowsAt_eq]
  exact stepOf_eq (rstds m c) t _ fun ht => vbefore0_9 m c t ht d

/-! ## The body obligation and the run -/

/-- What the body is called with at point `t`. -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d))
    ∗ (∃ d, owns (c : Thread nD τ) (st0_9 t) fullShare ((vdats m 0 c).before 9 t d)))

/-- What the body hands back at point `t`. -/
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t)
    ∗ owns (c : Thread nD τ) (st0_7 t) fullShare ((vdats m 0 c).after 7 t)
    ∗ owns (c : Thread nD τ) (st0_8 t) fullShare ((vdats m 0 c).after 8 t)
    ∗ owns (c : Thread nD τ) (st0_9 t) fullShare ((vdats m 0 c).after 9 t))

/-- The body of a step, from the blocks before it to the blocks stated in `vdats`. -/
theorem vsound_body (c : Dev nD) (t : Fin cfg0.N) :
    vbodyPre m c t ⊢ wp Idealize.ShloMosaic.frame (wpE (defs₀ (F := Ideal)) Variants.none c none) Set.univ (bodyAt0 t) (fun _ => vbodyPost m c t) := by
  unfold vbodyPre vbodyPost bodyAt0
  simp only [vbefore0_0, vbefore0_1, vbefore0_2, vbefore0_3, vbefore0_4, vbefore0_5]
  rw [show (vdats m 0 c).Φ t.succ = (vdats m 0 c).Φ t.castSucc from rfl,
    show (vdats m 0 c).owesAt () t.succ = (vdats m 0 c).owesAt () t.castSucc from rfl,
    vafter0_0, vafter0_1, vafter0_2, vafter0_3, vafter0_4, vafter0_5, vafter0_6, vafter0_7, vafter0_8, vafter0_9,
    show (vdats m 0 c).Φ t.castSucc = Pipeline.ΦA spec0 c from rfl]
  unfold Pipeline.ΦA
  rw [scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← codes_eq m c t, ← scales_eq m c t, ← mean_eq m c t d8, ← rstd_eq m c t d9]
  iapply (sound_kernel_val c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) ((vdats m 0 c).before 8 t d8) ((vdats m 0 c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The condition on the body that the rule for the grid asks for. -/
theorem vbody_obligation (c : Dev nD) :
    BodyObligation (vdats m 0 c) (defs₀ (F := Ideal)) Variants.none () Set.univ := fun t => by
  rw [bigSep_W0, bigSep_W0, defs₀_row]
  exact triple_restated (vsound_body m c t) rfl .rfl fun _ => .rfl

set_option backward.isDefEq.respectTransparency.types false in
/-- Every weakly fair execution terminates, with every window's array at what the proof data give and every other unscoped
    buffer as the host operations after the call leave it. -/
theorem vrun_main : θ_run defs (onTc (τ := τ) (main (F := Ideal))) (s₀ m ρ)
    (fun r => (Pipeline.FramePost cfgs (vdats m) 0 (Pipeline.afterTail₀ cfgs (vdats m) 0 (V0 m) [hostOps1])) r ∧ r.2.sem = fun _ => 0) :=
  Pipeline.θ_run_frame_around (Q' := _) cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl) (hQ' := fun _ h => h)

end Cert.KernelIdeal.Hand

end
-- ==== Proof.Hand.IdealValue.lean ====
/-
  The kernel's four results and the reference's are the same, in extended reals.
-/
module

public import proofs.«01_k».proof.Proof.Hand.IdealRun
public import proofs.«01_k».proof.Proof.Hand.RefValue
public import proofs.«01_k».proof.Defs

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The code of column `k` of row `s` of batch element `b`. -/
def codeAt (b : Fin 3) (s : Fin 640) (k : Fin 10240) : EReal :=
  (krow m c s b).code ⟨k.val / 128, by omega⟩ ⟨k.val % 128, by omega⟩
/-- The scale of block `j` of row `s` of batch element `b`. -/
def scaleAt (b : Fin 3) (j : Fin 80) (s : Fin 640) : EReal := (krow m c s b).scale j

/-- The codes that the call returns. -/
def res0 : Vec Ideal S3x640x10240 .fp8e4m3 := fun i => codeAt m c (i 0) (i 1) (i 2)
/-- The scales that the call returns. -/
def res1 : Vec Ideal S3x80x640 .f32 := fun i => scaleAt m c (i 0) (i 1) (i 2)
/-- The means that the call returns. -/
def res2 : Vec Ideal S3x640 .f32 := fun i => means m c (i 0) (i 1)
/-- The reciprocal deviations that the call returns. -/
def res3 : Vec Ideal S3x640 .f32 := fun i => rstds m c (i 0) (i 1)

/-- Equal coordinates have equal codes. -/
theorem codeAt_congr {b b' : Fin 3} {s s' : Fin 640} {k k' : Fin 10240} (hb : b.val = b'.val) (hs : s.val = s'.val) (hk : k.val = k'.val) :
    codeAt m c b s k = codeAt m c b' s' k' := by
  rw [Fin.ext hb, Fin.ext hs, Fin.ext hk]
/-- Equal coordinates have equal scales. -/
theorem scaleAt_congr {b b' : Fin 3} {j j' : Fin 80} {s s' : Fin 640} (hb : b.val = b'.val) (hj : j.val = j'.val) (hs : s.val = s'.val) :
    scaleAt m c b j s = scaleAt m c b' j' s' := by
  rw [Fin.ext hb, Fin.ext hj, Fin.ext hs]

/-- The block of the codes at a step. -/
theorem widx6 : ∀ t : Fin cfg0.grid.N, win0_6.index t 0 = t.val / 5 ∧ win0_6.index t 1 = t.val % 5 ∧ win0_6.index t 2 = 0 :=
  (by decide +kernel : ∀ t : Fin grid0.N, win0_6.index t 0 = t.val / 5 ∧ win0_6.index t 1 = t.val % 5 ∧ win0_6.index t 2 = 0)
/-- The block of the scales at a step. -/
theorem widx7 : ∀ t : Fin cfg0.grid.N, win0_7.index t 0 = t.val / 5 ∧ win0_7.index t 1 = 0 ∧ win0_7.index t 2 = t.val % 5 :=
  (by decide +kernel : ∀ t : Fin grid0.N, win0_7.index t 0 = t.val / 5 ∧ win0_7.index t 1 = 0 ∧ win0_7.index t 2 = t.val % 5)

/-- The array index of an index of window 6's block. -/
theorem emb6 (t : Fin cfg0.grid.N) (y : S1x128x10240.Idx) : (((cfg0.win 6).blk t).view.emb y 0).val = t.val / 5
    ∧ (((cfg0.win 6).blk t).view.emb y 1).val = t.val % 5 * 128 + (y 1).val ∧ (((cfg0.win 6).blk t).view.emb y 2).val = (y 2).val := by
  refine ⟨?_, ?_, ?_⟩
  · blk_simp; rw [(widx6 t).1]
  · blk_simp; rw [(widx6 t).2.1]
  · blk_simp; rw [(widx6 t).2.2, Nat.zero_mul, Nat.zero_add]
/-- The array index of an index of window 7's block. -/
theorem emb7 (t : Fin cfg0.grid.N) (y : S1x80x128.Idx) : (((cfg0.win 7).blk t).view.emb y 0).val = t.val / 5
    ∧ (((cfg0.win 7).blk t).view.emb y 1).val = (y 1).val ∧ (((cfg0.win 7).blk t).view.emb y 2).val = t.val % 5 * 128 + (y 2).val := by
  refine ⟨?_, ?_, ?_⟩
  · blk_simp; rw [(widx7 t).1]
  · blk_simp; rw [(widx7 t).2.1, Nat.zero_mul, Nat.zero_add]
  · blk_simp; rw [(widx7 t).2.2]

/-- The array of codes after the run. -/
theorem final6 : (vdats m 0 c).arrAt 6 cfg0.N = res0 m c :=
  (vdats m 0 c).arrAt_eq_of_covers 6 (res0 m c) (by decide +kernel) fun t hf y => by
    rw [vafter0_6]
    refine (cast_eq _ _).trans ?_
    obtain ⟨h0, h1, h2⟩ := emb6 t y
    exact codeAt_congr m c h0.symm h1.symm h2.symm

/-- The array of scales after the run. -/
theorem final7 : (vdats m 0 c).arrAt 7 cfg0.N = res1 m c :=
  (vdats m 0 c).arrAt_eq_of_covers 7 (res1 m c) (by decide +kernel) fun t hf y => by
    rw [vafter0_7]
    refine (cast_eq _ _).trans ?_
    obtain ⟨h0, h1, h2⟩ := emb7 t y
    exact scaleAt_congr m c h0.symm h1.symm h2.symm

/-- After the last point every value has been written. -/
theorem upTo_last (v : Fin 3 → Fin 640 → EReal) (y : S3x640.Idx) : (upTo v 14 y : EReal) = v (y 0) (y 1) := by
  have h0 : (y 0).val < 3 := (y 0).isLt
  have h1 : (y 1).val < 640 := (y 1).isLt
  unfold upTo
  rw [if_pos (by omega)]

/-- The array of means after the run. -/
theorem final8 : (vdats m 0 c).arrAt 8 cfg0.N = res2 m c :=
  (vdats m 0 c).arrAt_eq_of_after_last 8 t0_14 (by decide +kernel) (res2 m c) fun j => by
    rw [vafter0_8]
    refine (cast_eq _ _).trans ?_
    exact upTo_last (means m c) _

/-- The array of reciprocal deviations after the run. -/
theorem final9 : (vdats m 0 c).arrAt 9 cfg0.N = res3 m c :=
  (vdats m 0 c).arrAt_eq_of_after_last 9 t0_14 (by decide +kernel) (res3 m c) fun j => by
    rw [vafter0_9]
    refine (cast_eq _ _).trans ?_
    exact upTo_last (rstds m c) _

/-! ## The host's transposes of the four arrays -/

/-- A matrix from its values at its two coordinates. -/
theorem eq_of_at2 {a b : ℕ} {A B : (⟨2, ![a, b]⟩ : Shape).Idx → EReal} (h : ∀ i j, A (ix2 i j) = B (ix2 i j)) : A = B := funext fun y => by
  have e : y = ix2 (y 0) (y 1) := funext fun x => match x with | ⟨0, _⟩ => rfl | ⟨1, _⟩ => rfl
  rw [e]
  exact h _ _
/-- A three-dimensional array from its values at its three coordinates. -/
theorem eq_of_at3 {a b d : ℕ} {A B : (⟨3, ![a, b, d]⟩ : Shape).Idx → EReal} (h : ∀ i j k, A (ix3 i j k) = B (ix3 i j k)) : A = B := funext fun y => by
  have e : y = ix3 (y 0) (y 1) (y 2) := funext fun x => match x with | ⟨0, _⟩ => rfl | ⟨1, _⟩ => rfl | ⟨2, _⟩ => rfl
  rw [e]
  exact h _ _ _

/-- The codes, sequence first. -/
def out0 : Vec Ideal S640x3x10240 .fp8e4m3 := fun i => codeAt m c (i 1) (i 0) (i 2)
/-- The scales, sequence first. -/
def out1 : Vec Ideal S640x3x80 .f32 := fun i => scaleAt m c (i 1) (i 2) (i 0)
/-- The means, sequence first. -/
def out2 : Vec Ideal S640x3 .f32 := fun i => means m c (i 1) (i 0)
/-- The reciprocal deviations, sequence first. -/
def out3 : Vec Ideal S640x3 .f32 := fun i => rstds m c (i 1) (i 0)

/-- The transposed codes, at an index. -/
theorem tr0_at (W : Valuation τ sig (Elt Ideal)) (s : Fin 640) (b : Fin 3) (k : Fin 10240) :
    (StableHlo.after (List.flatten [hostOps1]) W main_v6 (ix3 s b k) : EReal) = W main_v5_0 (ix3 b s k) := by
  simp only [List.flatten_cons, List.flatten_nil, List.append_nil, hostOps1]
  after_reads_at
/-- The result 0 is the codes, sequence first. -/
theorem tail0 : Pipeline.afterTail₀ cfgs (vdats m) 0 (V0 m) [hostOps1] c main_v6 = out0 m c := by
  refine eq_of_at3 fun s b k => (tr0_at _ _ _ _).trans ?_
  exact congrFun ((Pipeline.withArrays_arr spec0 launch0.win.arr_inj c (V0 m c) (fun w => (vdats m 0 c).arrAt w cfg0.N) 6).trans (final6 m c)) _

/-- The transposed scales, at an index. -/
theorem tr1_at (W : Valuation τ sig (Elt Ideal)) (s : Fin 640) (b : Fin 3) (j : Fin 80) :
    (StableHlo.after (List.flatten [hostOps1]) W main_v7 (ix3 s b j) : EReal) = W main_v5_1 (ix3 b j s) := by
  simp only [List.flatten_cons, List.flatten_nil, List.append_nil, hostOps1]
  after_reads_at
/-- The result 1 is the scales, sequence first. -/
theorem tail1 : Pipeline.afterTail₀ cfgs (vdats m) 0 (V0 m) [hostOps1] c main_v7 = out1 m c := by
  refine eq_of_at3 fun s b j => (tr1_at _ _ _ _).trans ?_
  exact congrFun ((Pipeline.withArrays_arr spec0 launch0.win.arr_inj c (V0 m c) (fun w => (vdats m 0 c).arrAt w cfg0.N) 7).trans (final7 m c)) _

/-- The transposed means, at an index. -/
theorem tr2_at (W : Valuation τ sig (Elt Ideal)) (s : Fin 640) (b : Fin 3) :
    (StableHlo.after (List.flatten [hostOps1]) W main_v8 (ix2 s b) : EReal) = W main_v5_2 (ix2 b s) := by
  simp only [List.flatten_cons, List.flatten_nil, List.append_nil, hostOps1]
  after_reads_at
/-- The result 2 is the means, sequence first. -/
theorem tail2 : Pipeline.afterTail₀ cfgs (vdats m) 0 (V0 m) [hostOps1] c main_v8 = out2 m c := by
  refine eq_of_at2 fun s b => (tr2_at _ _ _).trans ?_
  exact congrFun ((Pipeline.withArrays_arr spec0 launch0.win.arr_inj c (V0 m c) (fun w => (vdats m 0 c).arrAt w cfg0.N) 8).trans (final8 m c)) _

/-- The transposed reciprocal deviations, at an index. -/
theorem tr3_at (W : Valuation τ sig (Elt Ideal)) (s : Fin 640) (b : Fin 3) :
    (StableHlo.after (List.flatten [hostOps1]) W main_v9 (ix2 s b) : EReal) = W main_v5_3 (ix2 b s) := by
  simp only [List.flatten_cons, List.flatten_nil, List.append_nil, hostOps1]
  after_reads_at
/-- The result 3 is the reciprocal deviations, sequence first. -/
theorem tail3 : Pipeline.afterTail₀ cfgs (vdats m) 0 (V0 m) [hostOps1] c main_v9 = out3 m c := by
  refine eq_of_at2 fun s b => (tr3_at _ _ _).trans ?_
  exact congrFun ((Pipeline.withArrays_arr spec0 launch0.win.arr_inj c (V0 m c) (fun w => (vdats m 0 c).arrAt w cfg0.N) 9).trans (final9 m c)) _

/-- The kernel's run: the four results as the rows' formulas have them, the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v6) = out0 m c
      ∧ r.2.mem ((c.tc : Thread nD τ).loc main_v7) = out1 m c
      ∧ r.2.mem ((c.tc : Thread nD τ).loc main_v8) = out2 m c
      ∧ r.2.mem ((c.tc : Thread nD τ).loc main_v9) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h.1 c).2 main_v6 (Pipeline.mem_restRefs_of main_v6 (by decide) (by decide))).trans (tail0 m c),
      ((h.1 c).2 main_v7 (Pipeline.mem_restRefs_of main_v7 (by decide) (by decide))).trans (tail1 m c),
      ((h.1 c).2 main_v8 (Pipeline.mem_restRefs_of main_v8 (by decide) (by decide))).trans (tail2 m c),
      ((h.1 c).2 main_v9 (Pipeline.mem_restRefs_of main_v9 (by decide) (by decide))).trans (tail3 m c), h.2 c⟩)
    (θ_run_and ((θ_run defs _ _).mono (fun _ h => h.1) (vrun_main m ρ))
      (frame_of m ρ (vdats m) (vA_eq m) ((θ_run defs _ _).mono (fun _ h => h.1) (vrun_main m ρ))))

/-! ## The reference's results -/

variable (m' : (ℓ : Loc Cert.ReferenceIdeal.nD Cert.ReferenceIdeal.τ Cert.ReferenceIdeal.sig) → Buf (Elt Ideal) ℓ)

/-- From the same arguments the reference's rows are the kernel's. -/
theorem row_eq (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5))
    (s : Fin 640) (b : Fin 3) : Cert.ReferenceIdeal.Hand.row m' c s b = krow m c s b := by
  obtain ⟨h0, h1, h2, h3, h4, h5⟩ := h
  unfold Cert.ReferenceIdeal.Hand.row krow
  congr 1
  · funext k; exact congrFun h0 _
  · exact congrFun h1 _
  · exact congrFun h2 _
  · exact congrFun h3 _
  · funext k; exact congrFun h4 _
  · funext k; exact congrFun h5 _

/-- The algebraic claim: from the same arguments the kernel and the reference end with the same four results, in extended reals. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => out0 m c, fun c => out1 m c, fun c => out2 m c, fun c => out3 m c, run_values m g, ?_⟩
  refine (θ_run _ _ _).mono (fun r h c => ?_) (θ_run_and (Cert.ReferenceIdeal.Gen.run_main m' g') (Cert.ReferenceIdeal.Gen.unchanged m' g'))
  have hr := row_eq m m' c (hagree c)
  refine ⟨?_, ?_, ?_, ?_, h.2 c⟩
  · refine (Cert.ReferenceIdeal.Value.post1 m' r h.1 c).trans (eq_of_at3 fun s b k => ?_)
    refine (Cert.ReferenceIdeal.Hand.cast_at m' c s b k).trans ?_
    rw [hr]
    rfl
  · refine ((h.1 c).2 Cert.ReferenceIdeal.main_v59 (Pipeline.mem_restRefs_of Cert.ReferenceIdeal.main_v59 (by decide) (by decide))).trans (eq_of_at3 fun s b j => ?_)
    refine (Cert.ReferenceIdeal.Hand.scale_at m' c s b j).trans ?_
    rw [hr]
    rfl
  · refine ((h.1 c).2 Cert.ReferenceIdeal.main_v17 (Pipeline.mem_restRefs_of Cert.ReferenceIdeal.main_v17 (by decide) (by decide))).trans (eq_of_at2 fun s b => ?_)
    refine (Cert.ReferenceIdeal.Hand.mean_at m' c s b).trans ?_
    rw [hr]
    rfl
  · refine ((h.1 c).2 Cert.ReferenceIdeal.main_v29 (Pipeline.mem_restRefs_of Cert.ReferenceIdeal.main_v29 (by decide) (by decide))).trans (eq_of_at2 fun s b => ?_)
    refine (Cert.ReferenceIdeal.Hand.rstd_at m' c s b).trans ?_
    rw [hr]
    rfl

end Cert.KernelIdeal.Hand

end
-- ==== Proof.lean ====
module

public import proofs.«01_k».proof.Defs
public import proofs.«01_k».proof.Proof.Gen.ReferenceIdeal
public import proofs.«01_k».proof.Proof.Gen.ReferenceIdeal.Frame
public import proofs.«01_k».proof.Proof.Hand.KernelFrame
public import proofs.«01_k».proof.Proof.Hand.IdealFrame
public import proofs.«01_k».proof.Proof.Hand.RefValue
public import proofs.«01_k».proof.Proof.Hand.IdealValue

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  Cert.KernelIdeal.Hand.algebraic⟩

end Cert.Proof

end
